-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x60 : Shape := ⟨2, ![1024, 60]⟩
abbrev S30720x2 : Shape := ⟨2, ![30720, 2]⟩
abbrev S4x128 : Shape := ⟨2, ![4, 128]⟩
abbrev S128 : Shape := ⟨1, ![128]⟩
abbrev S128x128 : Shape := ⟨2, ![128, 128]⟩
abbrev S3x64 : Shape := ⟨2, ![3, 64]⟩
abbrev S64x64 : Shape := ⟨2, ![64, 64]⟩
abbrev S64 : Shape := ⟨1, ![64]⟩
abbrev S384x128 : Shape := ⟨2, ![384, 128]⟩
abbrev S128x4 : Shape := ⟨2, ![128, 4]⟩
abbrev S4 : Shape := ⟨1, ![4]⟩
abbrev S_ : Shape := ⟨0, ![]⟩
abbrev S192x128 : Shape := ⟨2, ![192, 128]⟩

class Facts : Prop where
  bcast_S_S1024x60 : S_.BroadcastsInDim S1024x60 (![] : Fin 0 → Fin S1024x60.rank)
  reducesTo_S1024x60_S_d0_1 : S1024x60.ReducesTo [0, 1] S_
  h_S_ : 0 < S_.numel
  slices_S384x128_S192x128_192_0 : S384x128.Slices ![192, 0] S192x128
  bcast_S_S192x128 : S_.BroadcastsInDim S192x128 (![] : Fin 0 → Fin S192x128.rank)
  reducesTo_S192x128_S_d0_1 : S192x128.ReducesTo [0, 1] S_

variable [Facts]

def fn {F : FTy → Type} [FloatOps F] (main_arg0 : FVec F S1024x60 .f32) (main_arg1 : FVec F S30720x2 .f32) (main_arg2 : FVec F S4x128 .f32) (main_arg3 : FVec F S128 .f32) (main_arg4 : FVec F S128x128 .f32) (main_arg5 : FVec F S128 .f32) (main_arg6 : FVec F S3x64 .f32) (main_arg7 : FVec F S64x64 .f32) (main_arg8 : FVec F S64 .f32) (main_arg9 : FVec F S384x128 .f32) (main_arg10 : FVec F S128 .f32) (main_arg11 : FVec F S128x128 .f32) (main_arg12 : FVec F S128 .f32) (main_arg13 : FVec F S128x128 .f32) (main_arg14 : FVec F S128 .f32) (main_arg15 : FVec F S128x4 .f32) (main_arg16 : FVec F S4 .f32) : IVec S_ 1 :=
  let main_v0 : FVec F S1024x60 .f32 := Host.absf main_arg0
  let main_cst : FVec F S_ .f32 := constant S_ .f32 0x7F800000#32
  let main_v1 : FVec F S1024x60 .f32 := broadcastInDim S1024x60 ![] bcast_S_S1024x60 main_cst
  let main_v2 : IVec S1024x60 1 := cmpf .olt main_v0 main_v1
  let main_c : IVec S_ 1 := constantI S_ 1 1#1
  let main_v3 : IVec S_ 1 := (fun x v => Host.reduce IntOp.andi x v reducesTo_S1024x60_S_d0_1 h_S_) main_v2 main_c
  let main_v4 : FVec F S192x128 .f32 := (extractStridedSlice S192x128 ![192, 0] · slices_S384x128_S192x128_192_0) main_arg9
  let main_v5 : FVec F S192x128 .f32 := Host.absf main_v4
  let main_cst_0 : FVec F S_ .f32 := constant S_ .f32 0x7F800000#32
  let main_v6 : FVec F S192x128 .f32 := broadcastInDim S192x128 ![] bcast_S_S192x128 main_cst_0
  let main_v7 : IVec S192x128 1 := cmpf .olt main_v5 main_v6
  let main_c_1 : IVec S_ 1 := constantI S_ 1 1#1
  let main_v8 : IVec S_ 1 := (fun x v => Host.reduce IntOp.andi x v reducesTo_S192x128_S_d0_1 h_S_) main_v7 main_c_1
  let main_v9 : IVec S_ 1 := andi main_v3 main_v8
  main_v9
-- ==== Kernel.lean ====
abbrev S1024x60 : Shape := ⟨2, ![1024, 60]⟩
abbrev S30720x2 : Shape := ⟨2, ![30720, 2]⟩
abbrev S4x128 : Shape := ⟨2, ![4, 128]⟩
abbrev S128 : Shape := ⟨1, ![128]⟩
abbrev S128x128 : Shape := ⟨2, ![128, 128]⟩
abbrev S3x64 : Shape := ⟨2, ![3, 64]⟩
abbrev S64x64 : Shape := ⟨2, ![64, 64]⟩
abbrev S64 : Shape := ⟨1, ![64]⟩
abbrev S384x128 : Shape := ⟨2, ![384, 128]⟩
abbrev S128x4 : Shape := ⟨2, ![128, 4]⟩
abbrev S4 : Shape := ⟨1, ![4]⟩
abbrev S1024 : Shape := ⟨1, ![1024]⟩
abbrev S1x1024 : Shape := ⟨2, ![1, 1024]⟩
abbrev S1024x30x2 : Shape := ⟨3, ![1024, 30, 2]⟩
abbrev S_ : Shape := ⟨0, ![]⟩
abbrev S1024x32x4 : Shape := ⟨3, ![1024, 32, 4]⟩
abbrev S1 : Shape := ⟨1, ![1]⟩
abbrev S2 : Shape := ⟨1, ![2]⟩
abbrev S32768x4 : Shape := ⟨2, ![32768, 4]⟩
abbrev S1024x32 : Shape := ⟨2, ![1024, 32]⟩
abbrev S1024x30x1 : Shape := ⟨3, ![1024, 30, 1]⟩
abbrev S1024x30 : Shape := ⟨2, ![1024, 30]⟩
abbrev S32x1024 : Shape := ⟨2, ![32, 1024]⟩
abbrev S128x3840 : Shape := ⟨2, ![128, 3840]⟩
abbrev S8192x128 : Shape := ⟨2, ![8192, 128]⟩
abbrev S32x32 : Shape := ⟨2, ![32, 32]⟩
abbrev S256x128 : Shape := ⟨2, ![256, 128]⟩
abbrev S256x3840 : Shape := ⟨2, ![256, 3840]⟩
abbrev S32768x32 : Shape := ⟨2, ![32768, 32]⟩
abbrev S1x128 : Shape := ⟨2, ![1, 128]⟩
abbrev S1x64 : Shape := ⟨2, ![1, 64]⟩
abbrev S1x4 : Shape := ⟨2, ![1, 4]⟩
abbrev S1024x4 : Shape := ⟨2, ![1024, 4]⟩
abbrev S1024x128 : Shape := ⟨2, ![1024, 128]⟩
abbrev S1024x3 : Shape := ⟨2, ![1024, 3]⟩
abbrev S1024x64 : Shape := ⟨2, ![1024, 64]⟩
abbrev S64x128 : Shape := ⟨2, ![64, 128]⟩
abbrev S32x32x128 : Shape := ⟨3, ![32, 32, 128]⟩
abbrev S32x1x128 : Shape := ⟨3, ![32, 1, 128]⟩
abbrev S1024x1 : Shape := ⟨2, ![1024, 1]⟩
abbrev S1024x2 : Shape := ⟨2, ![1024, 2]⟩
abbrev S1024x30x4 : Shape := ⟨3, ![1024, 30, 4]⟩
abbrev S1024x120 : Shape := ⟨2, ![1024, 120]⟩

abbrev nBuf : Space → Nat
  | .hbm => 118
  | .vmem => 31
  | .smem => 0
  | _ => 0

abbrev bufTy : (tb : Table) → Fin (tcTables nBuf tb) → BufTy
  | .hbm, ⟨0, _⟩ => ⟨S1024x60, .f32⟩
  | .hbm, ⟨1, _⟩ => ⟨S30720x2, .f32⟩
  | .hbm, ⟨2, _⟩ => ⟨S4x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S3x64, .f32⟩
  | .hbm, ⟨7, _⟩ => ⟨S64x64, .f32⟩
  | .hbm, ⟨8, _⟩ => ⟨S64, .f32⟩
  | .hbm, ⟨9, _⟩ => ⟨S384x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x4, .f32⟩
  | .hbm, ⟨16, _⟩ => ⟨S4, .f32⟩
  | .hbm, ⟨17, _⟩ => ⟨S1024, .f32⟩
  | .hbm, ⟨18, _⟩ => ⟨S1x1024, .f32⟩
  | .hbm, ⟨19, _⟩ => ⟨S1024x30x2, .f32⟩
  | .hbm, ⟨20, _⟩ => ⟨S1024x30x2, .f32⟩
  | .hbm, ⟨21, _⟩ => ⟨S_, .f32⟩
  | .hbm, ⟨22, _⟩ => ⟨S1024x32x4, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S1024x32x4, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S1024x32x4, .f32⟩
  | .hbm, ⟨35, _⟩ => ⟨S32768x4, .f32⟩
  | .hbm, ⟨36, _⟩ => ⟨S_, .f32⟩
  | .hbm, ⟨37, _⟩ => ⟨S1024x32, .f32⟩
  | .hbm, ⟨38, _⟩ => ⟨S1024x30x1, .f32⟩
  | .hbm, ⟨39, _⟩ => ⟨S1024x30, .f32⟩
  | .hbm, ⟨40, _⟩ => ⟨S_, .i32⟩
  | .hbm, ⟨41, _⟩ => ⟨S1, .i32⟩
  | .hbm, ⟨42, _⟩ => ⟨S1024x32, .f32⟩
  | .hbm, ⟨43, _⟩ => ⟨S_, .f32⟩
  | .hbm, ⟨44, _⟩ => ⟨S1024x32, .f32⟩
  | .hbm, ⟨45, _⟩ => ⟨S1024x30x1, .f32⟩
  | .hbm, ⟨46, _⟩ => ⟨S1024x30, .f32⟩
  | .hbm, ⟨47, _⟩ => ⟨S_, .i32⟩
  | .hbm, ⟨48, _⟩ => ⟨S1, .i32⟩
  | .hbm, ⟨49, _⟩ => ⟨S1024x32, .f32⟩
  | .hbm, ⟨50, _⟩ => ⟨S32x1024, .i32⟩
  | .hbm, ⟨51, _⟩ => ⟨S32x1024, .i32⟩
  | .hbm, ⟨52, _⟩ => ⟨S_, .i32⟩
  | .hbm, ⟨53, _⟩ => ⟨S32x1024, .i32⟩
  | .hbm, ⟨54, _⟩ => ⟨S32x1024, .i32⟩
  | .hbm, ⟨55, _⟩ => ⟨S32x1024, .i1⟩
  | .hbm, ⟨56, _⟩ => ⟨S_, .f32⟩
  | .hbm, ⟨57, _⟩ => ⟨S_, .f32⟩
  | .hbm, ⟨58, _⟩ => ⟨S32x1024, .f32⟩
  | .hbm, ⟨59, _⟩ => ⟨S32x1024, .f32⟩
  | .hbm, ⟨60, _⟩ => ⟨S32x1024, .f32⟩
  | .hbm, ⟨61, _⟩ => ⟨S32x1024, .bf16⟩
  | .hbm, ⟨62, _⟩ => ⟨S_, .i32⟩
  | .hbm, ⟨63, _⟩ => ⟨S32x1024, .i32⟩
  | .hbm, ⟨64, _⟩ => ⟨S32x1024, .i32⟩
  | .hbm, ⟨65, _⟩ => ⟨S32x1024, .i1⟩
  | .hbm, ⟨66, _⟩ => ⟨S_, .f32⟩
  | .hbm, ⟨67, _⟩ => ⟨S_, .f32⟩
  | .hbm, ⟨68, _⟩ => ⟨S32x1024, .f32⟩
  | .hbm, ⟨69, _⟩ => ⟨S32x1024, .f32⟩
  | .hbm, ⟨70, _⟩ => ⟨S32x1024, .f32⟩
  | .hbm, ⟨71, _⟩ => ⟨S32x1024, .bf16⟩
  | .hbm, ⟨72, _⟩ => ⟨S128x3840, .i32⟩
  | .hbm, ⟨73, _⟩ => ⟨S128x3840, .i32⟩
  | .hbm, ⟨74, _⟩ => ⟨S_, .i32⟩
  | .hbm, ⟨75, _⟩ => ⟨S128x3840, .i32⟩
  | .hbm, ⟨76, _⟩ => ⟨S128x3840, .i32⟩
  | .hbm, ⟨77, _⟩ => ⟨S_, .i32⟩
  | .hbm, ⟨78, _⟩ => ⟨S128x3840, .i32⟩
  | .hbm, ⟨79, _⟩ => ⟨S128x3840, .i32⟩
  | .hbm, ⟨80, _⟩ => ⟨S_, .i32⟩
  | .hbm, ⟨81, _⟩ => ⟨S128x3840, .i32⟩
  | .hbm, ⟨82, _⟩ => ⟨S128x3840, .i32⟩
  | .hbm, ⟨83, _⟩ => ⟨S_, .i32⟩
  | .hbm, ⟨84, _⟩ => ⟨S128x3840, .i32⟩
  | .hbm, ⟨85, _⟩ => ⟨S128x3840, .i32⟩
  | .hbm, ⟨86, _⟩ => ⟨S128x3840, .i32⟩
  | .hbm, ⟨87, _⟩ => ⟨S128x3840, .i1⟩
  | .hbm, ⟨88, _⟩ => ⟨S_, .f32⟩
  | .hbm, ⟨89, _⟩ => ⟨S_, .f32⟩
  | .hbm, ⟨90, _⟩ => ⟨S128x3840, .f32⟩
  | .hbm, ⟨91, _⟩ => ⟨S128x3840, .f32⟩
  | .hbm, ⟨92, _⟩ => ⟨S128x3840, .f32⟩
  | .hbm, ⟨93, _⟩ => ⟨S128x3840, .bf16⟩
  | .hbm, ⟨94, _⟩ => ⟨S8192x128, .bf16⟩
  | .hbm, ⟨95, _⟩ => ⟨S32768x32, .bf16⟩
  | .hbm, ⟨96, _⟩ => ⟨S1x128, .f32⟩
  | .hbm, ⟨97, _⟩ => ⟨S1x128, .f32⟩
  | .hbm, ⟨98, _⟩ => ⟨S1x64, .f32⟩
  | .hbm, ⟨99, _⟩ => ⟨S1x128, .f32⟩
  | .hbm, ⟨100, _⟩ => ⟨S1x128, .f32⟩
  | .hbm, ⟨101, _⟩ => ⟨S1x128, .f32⟩
  | .hbm, ⟨102, _⟩ => ⟨S1x4, .f32⟩
  | .hbm, ⟨103, _⟩ => ⟨S1x128, .f32⟩
  | .hbm, ⟨104, _⟩ => ⟨S1x128, .f32⟩
  | .hbm, ⟨105, _⟩ => ⟨S1x64, .f32⟩
  | .hbm, ⟨106, _⟩ => ⟨S1x128, .f32⟩
  | .hbm, ⟨107, _⟩ => ⟨S1x128, .f32⟩
  | .hbm, ⟨108, _⟩ => ⟨S1x128, .f32⟩
  | .hbm, ⟨109, _⟩ => ⟨S1x4, .f32⟩
  | .hbm, ⟨110, _⟩ => ⟨S32768x4, .f32⟩
  | .hbm, ⟨111, _⟩ => ⟨S1024x32x4, .f32⟩
  | .hbm, ⟨112, _⟩ => ⟨S1024x30x4, .f32⟩
  | .hbm, ⟨113, _⟩ => ⟨S1024x30x2, .f32⟩
  | .hbm, ⟨114, _⟩ => ⟨S1024x60, .f32⟩
  | .hbm, ⟨115, _⟩ => ⟨S1024x30x2, .f32⟩
  | .hbm, ⟨116, _⟩ => ⟨S1024x60, .f32⟩
  | .hbm, ⟨117, _⟩ => ⟨S1024x120, .f32⟩
  | .local _ .vmem, ⟨0, _⟩ => ⟨S32x32, .f32⟩
  | .local _ .vmem, ⟨1, _⟩ => ⟨S32x32, .f32⟩
  | .local _ .vmem, ⟨2, _⟩ => ⟨S32x32, .f32⟩
  | .local _ .vmem, ⟨3, _⟩ => ⟨S32x32, .f32⟩
  | .local _ .vmem, ⟨4, _⟩ => ⟨S32x1024, .bf16⟩
  | .local _ .vmem, ⟨5, _⟩ => ⟨S32x1024, .bf16⟩
  | .local _ .vmem, ⟨6, _⟩ => ⟨S1x1024, .f32⟩
  | .local _ .vmem, ⟨7, _⟩ => ⟨S128x3840, .bf16⟩
  | .local _ .vmem, ⟨8, _⟩ => ⟨S256x128, .bf16⟩
  | .local _ .vmem, ⟨9, _⟩ => ⟨S256x128, .bf16⟩
  | .local _ .vmem, ⟨10, _⟩ => ⟨S1024x4, .f32⟩
  | .local _ .vmem, ⟨11, _⟩ => ⟨S1024x4, .f32⟩
  | .local _ .vmem, ⟨12, _⟩ => ⟨S1024x32, .bf16⟩
  | .local _ .vmem, ⟨13, _⟩ => ⟨S1024x32, .bf16⟩
  | .local _ .vmem, ⟨14, _⟩ => ⟨S4x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S3x64, .f32⟩
  | .local _ .vmem, ⟨19, _⟩ => ⟨S64x64, .f32⟩
  | .local _ .vmem, ⟨20, _⟩ => ⟨S1x64, .f32⟩
  | .local _ .vmem, ⟨21, _⟩ => ⟨S384x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S128x128, .f32⟩
  | .local _ .vmem, ⟨26, _⟩ => ⟨S1x128, .f32⟩
  | .local _ .vmem, ⟨27, _⟩ => ⟨S128x4, .f32⟩
  | .local _ .vmem, ⟨28, _⟩ => ⟨S1x4, .f32⟩
  | .local _ .vmem, ⟨29, _⟩ => ⟨S1024x4, .f32⟩
  | .local _ .vmem, ⟨30, _⟩ => ⟨S1024x4, .f32⟩
  | _, _ => ⟨S1024x60, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_c_1 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c_2 : Ref sig .tc := ⟨.hbm, 29, rfl⟩
abbrev main_v8 : Ref sig .tc := ⟨.hbm, 30, rfl⟩
abbrev main_c_3 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_4 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_c_5 : Ref sig .tc := ⟨.hbm, 40, rfl⟩
abbrev main_v16 : Ref sig .tc := ⟨.hbm, 41, rfl⟩
abbrev main_v17 : Ref sig .tc := ⟨.hbm, 42, rfl⟩
abbrev main_cst_6 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_7 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c_8 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_9 : Ref sig .tc := ⟨.hbm, 56, rfl⟩
abbrev main_cst_10 : Ref sig .tc := ⟨.hbm, 57, rfl⟩
abbrev main_call0_v0 : Ref sig .tc := ⟨.hbm, 58, rfl⟩
abbrev main_call0_v1 : Ref sig .tc := ⟨.hbm, 59, rfl⟩
abbrev main_v28 : Ref sig .tc := ⟨.hbm, 60, rfl⟩
abbrev main_v29 : Ref sig .tc := ⟨.hbm, 61, rfl⟩
abbrev main_c_11 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_12 : Ref sig .tc := ⟨.hbm, 66, rfl⟩
abbrev main_cst_13 : Ref sig .tc := ⟨.hbm, 67, rfl⟩
abbrev main_call1_v0 : Ref sig .tc := ⟨.hbm, 68, rfl⟩
abbrev main_call1_v1 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_c_14 : Ref sig .tc := ⟨.hbm, 74, rfl⟩
abbrev main_v37 : Ref sig .tc := ⟨.hbm, 75, rfl⟩
abbrev main_v38 : Ref sig .tc := ⟨.hbm, 76, rfl⟩
abbrev main_c_15 : Ref sig .tc := ⟨.hbm, 77, rfl⟩
abbrev main_v39 : Ref sig .tc := ⟨.hbm, 78, rfl⟩
abbrev main_v40 : Ref sig .tc := ⟨.hbm, 79, rfl⟩
abbrev main_c_16 : Ref sig .tc := ⟨.hbm, 80, rfl⟩
abbrev main_v41 : Ref sig .tc := ⟨.hbm, 81, rfl⟩
abbrev main_v42 : Ref sig .tc := ⟨.hbm, 82, rfl⟩
abbrev main_c_17 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_cst_18 : Ref sig .tc := ⟨.hbm, 88, rfl⟩
abbrev main_cst_19 : Ref sig .tc := ⟨.hbm, 89, rfl⟩
abbrev main_call2_v0 : Ref sig .tc := ⟨.hbm, 90, rfl⟩
abbrev main_call2_v1 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg13_0 : Ref sig .tc := ⟨.vmem, 25, rfl⟩
abbrev cc1_stg14_0 : Ref sig .tc := ⟨.vmem, 26, rfl⟩
abbrev cc1_stg15_0 : Ref sig .tc := ⟨.vmem, 27, rfl⟩
abbrev cc1_stg16_0 : Ref sig .tc := ⟨.vmem, 28, rfl⟩
abbrev cc1_stg17_0 : Ref sig .tc := ⟨.vmem, 29, rfl⟩
abbrev cc1_stg17_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem13_0 : DmaSem sig := 25
abbrev cc1_sem14_0 : DmaSem sig := 26
abbrev cc1_sem15_0 : DmaSem sig := 27
abbrev cc1_sem16_0 : DmaSem sig := 28
abbrev cc1_sem17_0 : DmaSem sig := 29
abbrev cc1_sem17_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x3840 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x32 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S384x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S128x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S128x4 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x4 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 2 → Memref sig .tc .vmem S1024x4 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]
-- ==== KernelIdeal.lean ====
variable {F : FTy → Type} [FloatOps F] [Named F]
def κ : String → Option EReal := fun
  | "mask" => some ⊥
  | _ => none
-- ==== ReferenceIdeal.lean ====
abbrev S1024x60 : Shape := ⟨2, ![1024, 60]⟩
abbrev S30720x2 : Shape := ⟨2, ![30720, 2]⟩
abbrev S4x128 : Shape := ⟨2, ![4, 128]⟩
abbrev S128 : Shape := ⟨1, ![128]⟩
abbrev S128x128 : Shape := ⟨2, ![128, 128]⟩
abbrev S3x64 : Shape := ⟨2, ![3, 64]⟩
abbrev S64x64 : Shape := ⟨2, ![64, 64]⟩
abbrev S64 : Shape := ⟨1, ![64]⟩
abbrev S384x128 : Shape := ⟨2, ![384, 128]⟩
abbrev S128x4 : Shape := ⟨2, ![128, 4]⟩
abbrev S4 : Shape := ⟨1, ![4]⟩
abbrev S1024x30x2 : Shape := ⟨3, ![1024, 30, 2]⟩
abbrev S1024x30x1x2 : Shape := ⟨4, ![1024, 30, 1, 2]⟩
abbrev S1024x1x30x2 : Shape := ⟨4, ![1024, 1, 30, 2]⟩
abbrev S1024x30x30x2 : Shape := ⟨4, ![1024, 30, 30, 2]⟩
abbrev S_ : Shape := ⟨0, ![]⟩
abbrev S1024x30x30 : Shape := ⟨3, ![1024, 30, 30]⟩
abbrev S30x30 : Shape := ⟨2, ![30, 30]⟩
abbrev S1x30x30 : Shape := ⟨3, ![1, 30, 30]⟩
abbrev S1024x30x10 : Shape := ⟨3, ![1024, 30, 10]⟩
abbrev S1024 : Shape := ⟨1, ![1024]⟩
abbrev S1024x1x1 : Shape := ⟨3, ![1024, 1, 1]⟩
abbrev S307200 : Shape := ⟨1, ![307200]⟩
abbrev S30720 : Shape := ⟨1, ![30720]⟩
abbrev S1024x30 : Shape := ⟨2, ![1024, 30]⟩
abbrev S1024x30x1 : Shape := ⟨3, ![1024, 30, 1]⟩
abbrev S10 : Shape := ⟨1, ![10]⟩
abbrev S30 : Shape := ⟨1, ![30]⟩
abbrev S1x30 : Shape := ⟨2, ![1, 30]⟩
abbrev S30720x1 : Shape := ⟨2, ![30720, 1]⟩
abbrev S30720x64 : Shape := ⟨2, ![30720, 64]⟩
abbrev S1x64 : Shape := ⟨2, ![1, 64]⟩
abbrev S30720x4 : Shape := ⟨2, ![30720, 4]⟩
abbrev S30720x128 : Shape := ⟨2, ![30720, 128]⟩
abbrev S1x128 : Shape := ⟨2, ![1, 128]⟩
abbrev S30720x192 : Shape := ⟨2, ![30720, 192]⟩
abbrev S307200x1 : Shape := ⟨2, ![307200, 1]⟩
abbrev S307200x192 : Shape := ⟨2, ![307200, 192]⟩
abbrev S307200x384 : Shape := ⟨2, ![307200, 384]⟩
abbrev S307200x128 : Shape := ⟨2, ![307200, 128]⟩
abbrev S30720x10x128 : Shape := ⟨3, ![30720, 10, 128]⟩
abbrev S1x4 : Shape := ⟨2, ![1, 4]⟩
abbrev S1024x120 : Shape := ⟨2, ![1024, 120]⟩

abbrev nBuf : Space → Nat
  | .hbm => 161
  | .vmem => 0
  | .smem => 0
  | _ => 0

abbrev hbmTy0_0 (i : Nat) : BufTy := match i % 128 with
  | 0 => ⟨S1024x60, .f32⟩
  | 1 => ⟨S30720x2, .f32⟩
  | 2 => ⟨S4x128, .f32⟩
  | 3 => ⟨S128, .f32⟩
  | 4 => ⟨S128x128, .f32⟩
  | 5 => ⟨S128, .f32⟩
  | 6 => ⟨S3x64, .f32⟩
  | 7 => ⟨S64x64, .f32⟩
  | 8 => ⟨S64, .f32⟩
  | 9 => ⟨S384x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x4, .f32⟩
  | 16 => ⟨S4, .f32⟩
  | 17 => ⟨S30720x2, .f32⟩
  | 18 => ⟨S1024x30x2, .f32⟩
  | 19 => ⟨S1024x30x1x2, .f32⟩
  | 20 => ⟨S1024x1x30x2, .f32⟩
  | 21 => ⟨S1024x30x30x2, .f32⟩
  | 22 => ⟨S1024x30x30x2, .f32⟩
  | 23 => ⟨S1024x30x30x2, .f32⟩
  | 24 => ⟨S1024x30x30x2, .f32⟩
  | 25 => ⟨S_, .f32⟩
  | 26 => ⟨S1024x30x30, .f32⟩
  | 27 => ⟨S30x30, .i32⟩
  | 28 => ⟨S30x30, .i32⟩
  | 29 => ⟨S_, .i32⟩
  | 30 => ⟨S30x30, .i32⟩
  | 31 => ⟨S30x30, .i32⟩
  | 32 => ⟨S30x30, .i1⟩
  | 33 => ⟨S30x30, .f32⟩
  | 34 => ⟨S_, .f32⟩
  | 35 => ⟨S30x30, .f32⟩
  | 36 => ⟨S30x30, .f32⟩
  | 37 => ⟨S1x30x30, .f32⟩
  | 38 => ⟨S1024x30x30, .f32⟩
  | 39 => ⟨S1024x30x30, .f32⟩
  | 40 => ⟨S1024x30x30, .f32⟩
  | 41 => ⟨S1024x30x10, .f32⟩
  | 42 => ⟨S1024x30x10, .i32⟩
  | 43 => ⟨S1024, .i32⟩
  | 44 => ⟨S_, .i32⟩
  | 45 => ⟨S1024, .i32⟩
  | 46 => ⟨S1024, .i32⟩
  | 47 => ⟨S1024x1x1, .i32⟩
  | 48 => ⟨S1024x30x10, .i32⟩
  | 49 => ⟨S1024x30x10, .i32⟩
  | 50 => ⟨S307200, .i32⟩
  | 51 => ⟨S30720, .i32⟩
  | 52 => ⟨S1024x30, .i32⟩
  | 53 => ⟨S1024x30x1, .i32⟩
  | 54 => ⟨S1024x30x10, .i32⟩
  | 55 => ⟨S307200, .i32⟩
  | 56 => ⟨S_, .i32⟩
  | 57 => ⟨S10, .i32⟩
  | 58 => ⟨S_, .i32⟩
  | 59 => ⟨S10, .i32⟩
  | 60 => ⟨S_, .i32⟩
  | 61 => ⟨S10, .i32⟩
  | 62 => ⟨S30, .i32⟩
  | 63 => ⟨S1x30, .i32⟩
  | 64 => ⟨S1024x30, .i32⟩
  | 65 => ⟨S30720, .i32⟩
  | 66 => ⟨S_, .i32⟩
  | 67 => ⟨S30720, .i32⟩
  | 68 => ⟨S30720, .i1⟩
  | 69 => ⟨S_, .i32⟩
  | 70 => ⟨S30720, .i32⟩
  | 71 => ⟨S30720, .i32⟩
  | 72 => ⟨S30720, .i32⟩
  | 73 => ⟨S30720x1, .i32⟩
  | 74 => ⟨S30720x64, .f32⟩
  | 75 => ⟨S30720x64, .f32⟩
  | 76 => ⟨S30720x64, .f32⟩
  | 77 => ⟨S1x64, .f32⟩
  | 78 => ⟨S30720x64, .f32⟩
  | 79 => ⟨S30720x64, .f32⟩
  | 80 => ⟨S30720x2, .f32⟩
  | 81 => ⟨S30720x4, .f32⟩
  | 82 => ⟨S30720x128, .f32⟩
  | 83 => ⟨S1x128, .f32⟩
  | 84 => ⟨S30720x128, .f32⟩
  | 85 => ⟨S30720x128, .f32⟩
  | 86 => ⟨S30720x128, .f32⟩
  | 87 => ⟨S30720x128, .f32⟩
  | 88 => ⟨S1x128, .f32⟩
  | 89 => ⟨S30720x128, .f32⟩
  | 90 => ⟨S30720x128, .f32⟩
  | 91 => ⟨S30720x192, .f32⟩
  | 92 => ⟨S30720x192, .f32⟩
  | 93 => ⟨S_, .i32⟩
  | 94 => ⟨S307200, .i32⟩
  | 95 => ⟨S307200, .i1⟩
  | 96 => ⟨S_, .i32⟩
  | 97 => ⟨S307200, .i32⟩
  | 98 => ⟨S307200, .i32⟩
  | 99 => ⟨S307200, .i32⟩
  | 100 => ⟨S307200x1, .i32⟩
  | 101 => ⟨S307200x192, .f32⟩
  | 102 => ⟨S_, .i32⟩
  | 103 => ⟨S307200, .i32⟩
  | 104 => ⟨S307200, .i1⟩
  | 105 => ⟨S_, .i32⟩
  | 106 => ⟨S307200, .i32⟩
  | 107 => ⟨S307200, .i32⟩
  | 108 => ⟨S307200, .i32⟩
  | 109 => ⟨S307200x1, .i32⟩
  | 110 => ⟨S307200x192, .f32⟩
  | 111 => ⟨S307200x192, .f32⟩
  | 112 => ⟨S307200x384, .f32⟩
  | 113 => ⟨S307200x128, .f32⟩
  | 114 => ⟨S1x128, .f32⟩
  | 115 => ⟨S307200x128, .f32⟩
  | 116 => ⟨S307200x128, .f32⟩
  | 117 => ⟨S307200x128, .f32⟩
  | 118 => ⟨S307200x128, .f32⟩
  | 119 => ⟨S1x128, .f32⟩
  | 120 => ⟨S307200x128, .f32⟩
  | 121 => ⟨S307200x128, .f32⟩
  | 122 => ⟨S30720x10x128, .f32⟩
  | 123 => ⟨S_, .f32⟩
  | 124 => ⟨S30720x128, .f32⟩
  | 125 => ⟨S30720x128, .f32⟩
  | 126 => ⟨S30720x128, .f32⟩
  | 127 => ⟨S1x128, .f32⟩
  | _ => ⟨S1024x60, .f32⟩

abbrev hbmTy0_1 (i : Nat) : BufTy := match i % 128 with
  | 0 => ⟨S30720x128, .f32⟩
  | 1 => ⟨S30720x128, .f32⟩
  | 2 => ⟨S30720x128, .f32⟩
  | 3 => ⟨S30720x4, .f32⟩
  | 4 => ⟨S1x4, .f32⟩
  | 5 => ⟨S30720x4, .f32⟩
  | 6 => ⟨S30720x4, .f32⟩
  | 7 => ⟨S30720x2, .f32⟩
  | 8 => ⟨S30720x2, .f32⟩
  | 9 => ⟨S30720x2, .f32⟩
  | 10 => ⟨S_, .f32⟩
  | 11 => ⟨S30720x2, .f32⟩
  | 12 => ⟨S30720x2, .f32⟩
  | 13 => ⟨S_, .f32⟩
  | 14 => ⟨S30720x2, .f32⟩
  | 15 => ⟨S30720x2, .f32⟩
  | 16 => ⟨S_, .f32⟩
  | 17 => ⟨S30720x2, .f32⟩
  | 18 => ⟨S30720x2, .f32⟩
  | 19 => ⟨S30720x2, .f32⟩
  | 20 => ⟨S1024x60, .f32⟩
  | 21 => ⟨S1024x60, .f32⟩
  | 22 => ⟨S1024x60, .f32⟩
  | 23 => ⟨S_, .f32⟩
  | 24 => ⟨S1024x60, .f32⟩
  | 25 => ⟨S1024x60, .f32⟩
  | 26 => ⟨S1024x60, .f32⟩
  | 27 => ⟨S1024x60, .f32⟩
  | 28 => ⟨S_, .f32⟩
  | 29 => ⟨S1024x60, .f32⟩
  | 30 => ⟨S1024x60, .f32⟩
  | 31 => ⟨S1024x60, .f32⟩
  | 32 => ⟨S1024x120, .f32⟩
  | _ => ⟨S1024x60, .f32⟩

abbrev hbmTy (i : Nat) : BufTy := match i / 128 with
  | 0 => hbmTy0_0 i
  | 1 => hbmTy0_1 i
  | _ => ⟨S1024x60, .f32⟩

abbrev bufTy : (tb : Table) → Fin (tcTables nBuf tb) → BufTy
  | .hbm, ⟨i, _⟩ => hbmTy i
  | _, _ => ⟨S1024x60, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_values : Ref sig .tc := ⟨.hbm, 41, rfl⟩
abbrev main_indices : Ref sig .tc := ⟨.hbm, 42, rfl⟩
abbrev main_v21 : Ref sig .tc := ⟨.hbm, 43, rfl⟩
abbrev main_c_1 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_2 : Ref sig .tc := ⟨.hbm, 56, rfl⟩
abbrev main_v33 : Ref sig .tc := ⟨.hbm, 57, rfl⟩
abbrev main_c_3 : Ref sig .tc := ⟨.hbm, 58, rfl⟩
abbrev main_v34 : Ref sig .tc := ⟨.hbm, 59, rfl⟩
abbrev main_c_4 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_5 : Ref sig .tc := ⟨.hbm, 66, rfl⟩
abbrev main_v40 : Ref sig .tc := ⟨.hbm, 67, rfl⟩
abbrev main_v41 : Ref sig .tc := ⟨.hbm, 68, rfl⟩
abbrev main_c_6 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_7 : Ref sig .tc := ⟨.hbm, 93, rfl⟩
abbrev main_v65 : Ref sig .tc := ⟨.hbm, 94, rfl⟩
abbrev main_v66 : Ref sig .tc := ⟨.hbm, 95, rfl⟩
abbrev main_c_8 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_9 : Ref sig .tc := ⟨.hbm, 102, rfl⟩
abbrev main_v72 : Ref sig .tc := ⟨.hbm, 103, rfl⟩
abbrev main_v73 : Ref sig .tc := ⟨.hbm, 104, rfl⟩
abbrev main_c_10 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_11 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_12 : Ref sig .tc := ⟨.hbm, 138, rfl⟩
abbrev main_v105 : Ref sig .tc := ⟨.hbm, 139, rfl⟩
abbrev main_v106 : Ref sig .tc := ⟨.hbm, 140, rfl⟩
abbrev main_cst_13 : Ref sig .tc := ⟨.hbm, 141, rfl⟩
abbrev main_v107 : Ref sig .tc := ⟨.hbm, 142, rfl⟩
abbrev main_v108 : Ref sig .tc := ⟨.hbm, 143, rfl⟩
abbrev main_cst_14 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_cst_15 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_16 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩

abbrev nD : Nat := 1
abbrev τ : Topo := Topo.v7x

variable {F : FTy → Type} [FloatOps F]
-- ==== Proof.Finite.lean ====
/- What the precondition says: the coordinates and the lower half of the edges' first weights are real numbers. -/
module

public import proofs.«01_k».proof.Proof.Gen.Pre_finite
public import Idealize.ShloMosaic.Lib.Pointwise
public import Idealize.ShloMosaic.Lib.ReduceAll

@[expose] public section

noncomputable section

namespace Cert.Proof.Finite

open Idealize.ShloMosaic Cert.Pre_finite

/-- A number whose absolute value is below infinity is real. -/
theorem real_of_bit (x : EReal)
    (h : FloatOps.cmpf (F := Ideal) (φ := .f32) .olt (FloatOps.absf (F := Ideal) (φ := .f32) x) (FloatOps.ofBits (F := Ideal) .f32 0x7F800000#32) = 1#1) :
    ∃ r : ℝ, x = r := by
  rw [Ideal.cmpf_def, Ideal.absf_def, show FloatOps.ofBits (F := Ideal) .f32 0x7F800000#32 = (⊤ : EReal) from rfl] at h
  induction x with
  | coe r => exact ⟨r, rfl⟩
  | top => simp [Ideal.cmp] at h
  | bot => simp [Ideal.cmp] at h

/-- The result of a reduction over everything has one index. -/
instance : Subsingleton S_.Idx := ⟨fun _ _ => funext fun a => a.elim0⟩

variable (a0 : FVec Ideal S1024x60 .f32) (a1 : FVec Ideal S30720x2 .f32) (a2 : FVec Ideal S4x128 .f32) (a3 : FVec Ideal S128 .f32)
  (a4 : FVec Ideal S128x128 .f32) (a5 : FVec Ideal S128 .f32) (a6 : FVec Ideal S3x64 .f32) (a7 : FVec Ideal S64x64 .f32)
  (a8 : FVec Ideal S64 .f32) (a9 : FVec Ideal S384x128 .f32) (a10 : FVec Ideal S128 .f32) (a11 : FVec Ideal S128x128 .f32)
  (a12 : FVec Ideal S128 .f32) (a13 : FVec Ideal S128x128 .f32) (a14 : FVec Ideal S128 .f32) (a15 : FVec Ideal S128x4 .f32)
  (a16 : FVec Ideal S4 .f32)

/-- The two halves of the precondition. -/
theorem both (h : fn (F := Ideal) a0 a1 a2 a3 a4 a5 a6 a7 a8 a9 a10 a11 a12 a13 a14 a15 a16 = fun _ => 1#1) :
    (∀ (b : Fin 1024) (k : Fin 60), ∃ r : ℝ, (a0 (ix2 b k) : EReal) = r)
      ∧ ∀ (y : Fin 192) (q : Fin 128), ∃ r : ℝ, (a9 (ix2 ⟨192 + y, by omega⟩ q) : EReal) = r := by
  have e := congrFun h (fun a => a.elim0)
  unfold fn at e
  obtain ⟨e0, e1⟩ := (IntOp.andi_eq_one ..).1 e
  refine ⟨fun b k => real_of_bit _ (Host.reduce_andi_all _ _ _ _ _ e0 (ix2 b k)), fun y q => real_of_bit _ ?_⟩
  have r := Host.reduce_andi_all _ _ _ _ _ e1 (ix2 y q)
  revert r
  pointwise
  exact id

end Cert.Proof.Finite

end
-- ==== Proof.KernelRun.lean ====
/- The whole kernel's run: every buffer at what the last boundary holds. -/
module

public import proofs.«01_k».proof.Proof.Gen.KernelIdeal.Frame

@[expose] public section

set_option maxRecDepth 16384

noncomputable section

namespace Cert.Proof.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
variable (m : (ℓ : Loc nD τ sig) → Buf (Elt F) ℓ) (ρ : Dev nD → PrngReg)

set_option backward.isDefEq.respectTransparency.types false in
/-- The kernel ends, each core's buffers holding what the fold over its host operations and its two calls computes. -/
theorem run : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => h)

end Cert.Proof.KernelRun
-- ==== Proof.Edge.lean ====
/- The edge convolution over the extended reals, coordinate by coordinate: what both programs compute. -/
module

public import Idealize.ShloMosaic.PureOps
public import Idealize.ShloMosaic.Lib.Pointwise

@[expose] public section

noncomputable section

namespace Cert.Proof.Edge

open Idealize.ShloMosaic

/-- The weights of the network. -/
structure Net where
  /-- First layer of the nodes' features, its weights. -/
  W1a : Fin 4 → Fin 128 → EReal
  /-- First layer of the nodes' features, its offsets. -/
  b1a : Fin 128 → EReal
  /-- Second layer of the nodes' features, its weights. -/
  W1b : Fin 128 → Fin 128 → EReal
  /-- Second layer of the nodes' features, its offsets. -/
  b1b : Fin 128 → EReal
  /-- The embedding of the three categories. -/
  emb : Fin 3 → Fin 64 → EReal
  /-- The categories' layer, its weights. -/
  Wc : Fin 64 → Fin 64 → EReal
  /-- The categories' layer, its offsets. -/
  bc : Fin 64 → EReal
  /-- First layer of the edges' network, its weights: 192 rows for `x_i`, then 192 for `x_j - x_i`. -/
  Wm1 : Fin 384 → Fin 128 → EReal
  /-- First layer of the edges' network, its offsets. -/
  bm1 : Fin 128 → EReal
  /-- Second layer of the edges' network, its weights. -/
  Wm2 : Fin 128 → Fin 128 → EReal
  /-- Second layer of the edges' network, its offsets. -/
  bm2 : Fin 128 → EReal
  /-- First layer of the actor, its weights. -/
  Ws1 : Fin 128 → Fin 128 → EReal
  /-- First layer of the actor, its offsets. -/
  bs1 : Fin 128 → EReal
  /-- Second layer of the actor, its weights. -/
  Ws2 : Fin 128 → Fin 4 → EReal
  /-- Second layer of the actor, its offsets. -/
  bs2 : Fin 4 → EReal

namespace Net

variable (N : Net)

/-- A node's own features from its four inputs. -/
def feature (t : Fin 4 → EReal) (q : Fin 128) : EReal :=
  Ideal.tanh (∑ x, Ideal.tanh (∑ k, t k * N.W1a k x + N.b1a x) * N.W1b x q + N.b1b q)

/-- The features of a category. -/
def category (k : Fin 3) (q : Fin 64) : EReal :=
  Ideal.tanh (∑ x, Ideal.tanh (N.emb k x) * N.Wc x q + N.bc q)

/-- The half of an edge's first layer that depends on the receiving node alone. -/
def left (th : Fin 128 → EReal) (tc : Fin 64 → EReal) (q : Fin 128) : EReal :=
  ∑ x : Fin 128, th x * (N.Wm1 ⟨x, by omega⟩ q - N.Wm1 ⟨192 + x, by omega⟩ q)
    + ∑ x : Fin 64, tc x * (N.Wm1 ⟨128 + x, by omega⟩ q - N.Wm1 ⟨320 + x, by omega⟩ q) + N.bm1 q

/-- The half of an edge's first layer that depends on the sending node alone. -/
def right (th : Fin 128 → EReal) (tc : Fin 64 → EReal) (q : Fin 128) : EReal :=
  ∑ x : Fin 128, th x * N.Wm1 ⟨192 + x, by omega⟩ q + ∑ x : Fin 64, tc x * N.Wm1 ⟨320 + x, by omega⟩ q

/-- The second layer of an edge, without its offset, from the sum of the two halves. -/
def message (s : Fin 128 → EReal) (h : Fin 128) : EReal := ∑ x, Ideal.tanh (s x) * N.Wm2 x h

/-- The actor's four numbers from a node's aggregate. -/
def actor (a : Fin 128 → EReal) (c : Fin 4) : EReal :=
  ∑ x, Ideal.tanh (∑ y, Ideal.tanh (a y) * N.Ws1 y x + N.bs1 x) * N.Ws2 x c + N.bs2 c

end Net

/-- The standard deviation from the actor's number. -/
def deviation (o : EReal) : EReal :=
  Ideal.exp (Ideal.ofBits .f32 0xC0A00000#32 + Ideal.ofBits .f32 0x40600000#32 * (Ideal.tanh o + 1))

/-- The maximum of `f 0`, …, `f (n - 1)`, from `-∞`. -/
def foldMax (f : ℕ → EReal) : ℕ → EReal
  | 0 => ⊥
  | n + 1 => max (foldMax f n) (f n)

/-- The running maximum is the supremum. -/
theorem foldMax_eq (f : ℕ → EReal) (n : ℕ) : foldMax f n = (Finset.range n).sup f := by
  induction n with
  | zero => rfl
  | succ n ih => rw [foldMax, ih, Finset.range_add_one, Finset.sup_insert, max_comm]

end Cert.Proof.Edge

end
-- ==== Proof.Mask.lean ====
/- What the first kernel call stores: the rank of a distance among the distances from one node, read at an index. -/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Proof.Mask

open Idealize.ShloMosaic Cert.KernelIdeal Cert.KernelIdeal.Gen

/-- What distance `ck`, of node `k`, adds to the rank of distance `d`, of the node that the word `w` names. -/
def vote (d : EReal) (w : BitVec 32) (k : ℕ) (ck : EReal) : EReal :=
  Scalar.select (IntOp.cmpi .sgt w (BitVec.ofNat 32 k))
      (Scalar.select (Ideal.cmp .ole ck d) (1 : EReal) 0) (Scalar.select (Ideal.cmp .olt ck d) (1 : EReal) 0)
    * Scalar.select (IntOp.cmpi .eq w (BitVec.ofNat 32 k)) (0 : EReal) 1

/-- The sum of the first `n` votes. -/
def votes (d : EReal) (w : BitVec 32) (ck : ℕ → EReal) : ℕ → EReal
  | 0 => 0
  | n + 1 => votes d w ck n + vote d w n (ck n)

variable (v64 : FVec Ideal S256x128 .f32) (v81 : IVec S256x128 32) (v95 : FVec Ideal S256x3840 .f32)
  (v82 v85 v88 : FVec Ideal S256x128 .bf16) (v89 : Vec Ideal S128x3840 .bf16)

/-- The thirty votes, added up and compared with ten. -/
theorem rank_chain (hv : v95 = k0_pay19 v82 v85 v88 v89) (r : Fin 256) (c : Fin 128) :
    (k0_pay77 v64 v81 v95 (k0_pay71 v64 v81 v95 (k0_pay66 v64 v81 v95 (k0_pay65 v64 v81 v95 (k0_pay60 v64 v81 v95 (k0_pay55
      v64 v81 v95 (k0_pay51 v64 v81 v95 (k0_pay48 v64 v81 v95 (k0_pay42 v64 v81 v95 (k0_pay37 v64 v81 v95 (k0_pay31 v64 v81 v95
      (k0_pay26 v64 v81 v95 (k0_pay25 v64 v81 v95 (k0_pay20 v64 v81 v82 v85 v88 v89) (k0_pay22 v64 v82 v85 v88 v89) (k0_pay23
      v64 v82 v85 v88 v89) (k0_pay24 (F := Ideal) v81))) (k0_pay27 v95) (k0_pay28 v64 v95) (k0_pay29 (F := Ideal)) (k0_pay30 (F
      := Ideal))) (k0_pay33 v64 v95) (k0_pay34 v64 v95) (k0_pay35 (F := Ideal)) (k0_pay36 (F := Ideal))) (k0_pay39 v64 v95)
      (k0_pay40 v64 v95) (k0_pay41 v81) (Scalar.ofBits .f32 0x00000000#32) (Scalar.ofBits .f32 0x3F800000#32)) (k0_pay44 v64
      v95) (k0_pay45 v64 v95) (k0_pay46 (F := Ideal) v81) (k0_pay47 v81)) (k0_pay49 v95) (k0_pay50 v64 v95) (Scalar.ofBits .f32
      0x3F800000#32)) (k0_pay53 v64 v95) (k0_pay54 v64 v95) (Scalar.ofBits .f32 0x3F800000#32)) (k0_pay57 v64 v95) (k0_pay58
      v64 v95) k0_pay59) (k0_pay62 v64 v95) (k0_pay63 v64 v95) (k0_pay64 (F := Ideal) v81))) (k0_pay67 v95) (k0_pay68 v64 v95)
      (k0_pay69 (F := Ideal)) (k0_pay70 (F := Ideal))) (k0_pay73 v64 v95) (k0_pay74 v64 v95) (k0_pay75 (F := Ideal)) (k0_pay76
      (F := Ideal))) (ix2 r c)
      = Ideal.cmp .olt (votes (v64 (ix2 r c)) (v81 (ix2 r c)) (fun k => v95 (ix2 r (Fin.ofNat 3840 (k * 128 + c)))) 30) (Ideal.ofBits .f32 0x41200000#32) := by
  unfold k0_pay20 k0_pay22 k0_pay23 k0_pay21
  rw [← hv]
  have e0 : Fin.ofNat 3840 (c : ℕ) = ⟨c, by omega⟩ := Fin.ext (Nat.mod_eq_of_lt (by omega))
  have e : ∀ n (h : n ≤ 3712), Fin.ofNat 3840 (n + (c : ℕ)) = ⟨n + c, by omega⟩ := fun n h => Fin.ext (Nat.mod_eq_of_lt (by omega))
  pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, votes, vote, e0, e]

/-- A vote is one for a smaller distance, or an equal one of an earlier node. -/
theorem vote_eq (d ck : EReal) (j : Fin 32) (k : Fin 30) :
    vote d (BitVec.ofNat 32 j) k ck = if ck < d ∨ ck = d ∧ (k : ℕ) < j then (if (k : ℕ) = j then 0 else 1) else 0 := by
  have h1 : ∀ (j : Fin 32) (k : Fin 30), IntOp.cmpi .sgt (BitVec.ofNat 32 j) (BitVec.ofNat 32 k) = BitVec.ofBool (decide ((k : ℕ) < j)) := by
    decide +kernel
  have h2 : ∀ (j : Fin 32) (k : Fin 30), IntOp.cmpi .eq (BitVec.ofNat 32 j) (BitVec.ofNat 32 k) = BitVec.ofBool (decide ((k : ℕ) = j)) := by
    decide +kernel
  unfold vote
  rw [h1, h2]
  rcases lt_trichotomy (k : ℕ) j with hkj | hkj | hkj
  · have : ¬ (k : ℕ) = j := by omega
    simp only [hkj, this, Ideal.cmp, le_iff_lt_or_eq]
    by_cases ha : ck < d <;> by_cases hb : ck = d <;> simp [Scalar.select, ha, hb]
  · have : ¬ (k : ℕ) < j := by omega
    simp [hkj, Scalar.select]
  · have h3 : ¬ (k : ℕ) < j := by omega
    have h4 : ¬ (k : ℕ) = j := by omega
    simp only [h3, h4, Ideal.cmp]
    by_cases ha : ck < d <;> simp [Scalar.select, ha]

/-- The nodes before node `j` in the order of the distances `D`, ties going to the earlier node. -/
def before (D : Fin 30 → EReal) (j : Fin 30) : Finset (Fin 30) :=
  Finset.univ.filter fun k => D k < D j ∨ D k = D j ∧ k < j

/-- The votes count the nodes before. -/
theorem votes_eq (D : Fin 30 → EReal) (j : Fin 30) (ck : ℕ → EReal) (hck : ∀ k : Fin 30, ck k = D k) :
    votes (D j) (BitVec.ofNat 32 j) ck 30 = ((before D j).card : ℕ) := by
  have h : ∀ n, n ≤ 30 → votes (D j) (BitVec.ofNat 32 j) ck n
      = (((Finset.univ : Finset (Fin 30)).filter fun k => (D k < D j ∨ D k = D j ∧ k < j) ∧ (k : ℕ) < n).card : ℕ) := by
    intro n
    induction n with
    | zero => intro _; simp [votes]
    | succ n ih =>
      intro hn
      have hv := vote_eq (D j) (ck n) ⟨j, by omega⟩ ⟨n, by omega⟩
      have hn' : ck n = D ⟨n, by omega⟩ := hck ⟨n, by omega⟩
      simp only at hv
      rw [votes, ih (by omega), hv, hn']
      have hs : ((Finset.univ : Finset (Fin 30)).filter fun k => (D k < D j ∨ D k = D j ∧ k < j) ∧ (k : ℕ) < n + 1)
          = ((Finset.univ : Finset (Fin 30)).filter fun k => (D k < D j ∨ D k = D j ∧ k < j) ∧ (k : ℕ) < n)
            ∪ (if D ⟨n, by omega⟩ < D j ∨ D ⟨n, by omega⟩ = D j ∧ (⟨n, by omega⟩ : Fin 30) < j then {⟨n, by omega⟩} else ∅) := by
        ext k
        simp only [Finset.mem_union, Finset.mem_filter, Finset.mem_univ, true_and]
        constructor
        · rintro ⟨hk, hkn⟩
          rcases Nat.lt_succ_iff_lt_or_eq.1 hkn with h | h
          · exact Or.inl ⟨hk, h⟩
          · have : k = ⟨n, by omega⟩ := Fin.ext h
            rw [this] at hk ⊢
            exact Or.inr (by rw [if_pos hk]; exact Finset.mem_singleton_self _)
        · rintro (⟨hk, hkn⟩ | hk)
          · exact ⟨hk, by omega⟩
          · split at hk
            · rename_i hc
              have := Finset.mem_singleton.1 hk
              subst this
              exact ⟨hc, Nat.lt_succ_self _⟩
            · exact absurd hk (Finset.notMem_empty _)
      rw [hs, Finset.card_union_of_disjoint]
      · by_cases hc : D ⟨n, by omega⟩ < D j ∨ D ⟨n, by omega⟩ = D j ∧ (⟨n, by omega⟩ : Fin 30) < j
        · have hne : ¬ n = (j : ℕ) := by
            rintro rfl
            rcases hc with h | h
            · exact lt_irrefl _ h
            · exact lt_irrefl _ h.2
          rw [if_pos hc, if_pos (by exact hc), if_neg hne, Finset.card_singleton]
          push_cast
          rfl
        · rw [if_neg hc, if_neg (by exact hc), Finset.card_empty]
          simp
      · rw [Finset.disjoint_left]
        intro k hk hk'
        have h1 := (Finset.mem_filter.1 hk).2.2
        split at hk'
        · have := Finset.mem_singleton.1 hk'
          subst this
          exact lt_irrefl _ h1
        · exact absurd hk' (Finset.notMem_empty _)
  rw [h 30 le_rfl]
  congr 2
  unfold before
  exact Finset.filter_congr fun k _ => ⟨fun h => h.1, fun h => ⟨h, k.2⟩⟩

/-- Ten, as the kernel spells it. -/
theorem ofBits_ten : Ideal.ofBits .f32 0x41200000#32 = ((10 : ℕ) : EReal) := by
  have h : Ideal.ofBits .f32 0x41200000#32 = ((10 : ℝ) : EReal) := by
    simp [Ideal.ofBits, Ideal.ieee, -EReal.coe_mul]; norm_num
  rw [h, ← EReal.coe_natCast]
  norm_num

/-- The number put on the diagonal is a real one. -/
theorem ofBits_diag : ∃ x : ℝ, Ideal.ofBits .f32 0x501502F9#32 = x :=
  ⟨_, by simp [Ideal.ofBits, Ideal.ieee]; rfl⟩

/-- A real row against a column of zeros and a one, through the split of the row into three parts: the row's entry. -/
theorem split_sel {n : ℕ} (v s : Fin n → EReal) (hv : ∀ x, ∃ r : ℝ, v x = r) (p : Fin n) (hs : ∀ x, s x = if x = p then 1 else 0) :
    ∑ x, v x * s x + ∑ x, (v x - v x) * s x + ∑ x, (v x - v x - (v x - v x)) * s x = v p := by
  have h0 : ∀ x, v x - v x = 0 := fun x => by
    obtain ⟨r, hr⟩ := hv x
    rw [hr, ← EReal.coe_sub, sub_self, EReal.coe_zero]
  simp only [h0, hs]
  simp

section Out

variable (x0 x1 : Vec Ideal S32x32 .f32) (x2 x3 : Vec Ideal S32x1024 .bf16) (x4 : Vec Ideal S1x1024 .f32) (x5 : Vec Ideal S128x3840 .bf16)

/-- The squared distance between nodes `i` and `j` of sample `g`, with the number of the diagonal added for `i = j`. -/
def dist (g i j : Fin 32) : EReal :=
  (x0 (ix2 g i) - x0 (ix2 g j)) * (x0 (ix2 g i) - x0 (ix2 g j)) + (x1 (ix2 g i) - x1 (ix2 g j)) * (x1 (ix2 g i) - x1 (ix2 g j))
    + if i = j then Ideal.ofBits .f32 0x501502F9#32 else 0

/-- What the kernel's tables hold: the two selections, the diagonal, the rearrangement of the distances. -/
structure Tables : Prop where
  first : ∀ (x : Fin 32) (f : Fin 1024), x2 (ix2 x f) = if (x : ℕ) = f / 32 then 1 else 0
  second : ∀ (x : Fin 32) (f : Fin 1024), x3 (ix2 x f) = if (x : ℕ) = f % 32 then 1 else 0
  diagonal : ∀ f : Fin 1024, x4 (ix2 0 f) = if (f : ℕ) / 32 = f % 32 then Ideal.ofBits .f32 0x501502F9#32 else 0
  rearrange : ∀ (y : Fin 128) (q : Fin 3840), x5 (ix2 y q) = if (y : ℕ) = (q : ℕ) % 128 / 32 * 32 + q / 128 then 1 else 0

variable {x0 x1 x2 x3 x4 x5}

/-- A distance is a real number. -/
theorem dist_real (h0 : ∀ g i, ∃ r : ℝ, x0 (ix2 g i) = r) (h1 : ∀ g i, ∃ r : ℝ, x1 (ix2 g i) = r) (g i j : Fin 32) :
    ∃ r : ℝ, dist x0 x1 g i j = r := by
  obtain ⟨a, ha⟩ := h0 g i
  obtain ⟨b, hb⟩ := h0 g j
  obtain ⟨c, hc⟩ := h1 g i
  obtain ⟨d, hd⟩ := h1 g j
  obtain ⟨e, he⟩ := ofBits_diag
  refine ⟨(a - b) * (a - b) + (c - d) * (c - d) + if i = j then e else 0, ?_⟩
  unfold dist
  rw [ha, hb, hc, hd, he]
  split <;> push_cast <;> rfl

/-- The distances, in rows of four receiving nodes. -/
theorem distances (T : Tables x2 x3 x4 x5) (h0 : ∀ g i, ∃ r : ℝ, x0 (ix2 g i) = r) (h1 : ∀ g i, ∃ r : ℝ, x1 (ix2 g i) = r)
    (g : Fin 32) (i j : Fin 32) :
    k0_pay86 x0 x1 x2 x3 x4 x5 (ix2 ⟨(g : ℕ) * 8 + i / 4, by omega⟩ ⟨(i : ℕ) % 4 * 32 + j, by omega⟩) = dist x0 x1 g i j := by
  have e1 : (((g : ℕ) * 8 + i / 4) * 128 + ((i : ℕ) % 4 * 32 + j)) / 1024 = g := by omega
  have e2 : (((g : ℕ) * 8 + i / 4) * 128 + ((i : ℕ) % 4 * 32 + j)) % 1024 = i * 32 + j := by omega
  unfold k0_pay86 k0_pay85 k0_pay84 k0_pay83 k0_pay82 k0_pay81 k0_pay80 k0_pay79 k0_pay78
  rw [View.ld_unit_lit _ x0 (by decide), View.ld_unit_lit _ x1 (by decide), View.ld_unit_lit _ x2 (by decide), View.ld_unit_lit _ x3 (by decide),
    View.ld_unit_lit _ x4 (by decide)]
  pointwise [k0_pay13, k0_pay12, k0_pay11, k0_pay10, k0_pay9, k0_pay8, k0_pay7, k0_pay6, k0_pay5, k0_pay4, k0_pay3, k0_pay2, e1, e2, dist]
  have e3 : ((g : ℕ) * 8 + i / 4) % 8 * 128 + ((i : ℕ) % 4 * 32 + j) = i * 32 + j := by omega
  have e4 : ((i : ℕ) * 32 + j) / 32 = i := by omega
  have e5 : ((i : ℕ) * 32 + j) % 32 = j := by omega
  have s2 : ∀ (v : Vec Ideal S32x32 .f32) (_ : ∀ g i, ∃ r : ℝ, v (ix2 g i) = r), _ := fun v hv =>
    split_sel (fun x => v (ix2 g x)) (fun x => x2 (ix2 x ⟨(i : ℕ) * 32 + j, by omega⟩)) (hv g) i
      (fun x => by rw [T.first]; simp only [e4, Fin.ext_iff])
  have s3 : ∀ (v : Vec Ideal S32x32 .f32) (_ : ∀ g i, ∃ r : ℝ, v (ix2 g i) = r), _ := fun v hv =>
    split_sel (fun x => v (ix2 g x)) (fun x => x3 (ix2 x ⟨(i : ℕ) * 32 + j, by omega⟩)) (hv g) j
      (fun x => by rw [T.second]; simp only [e5, Fin.ext_iff])
  simp only [e3]
  rw [s2 x0 h0, s2 x1 h1, s3 x0 h0, s3 x1 h1, T.diagonal]
  simp only [e4, e5, Fin.ext_iff]

/-- The distances, rearranged: column `k * 128 + c` holds the distance to node `k` in the block of four that column `c` lies in. -/
theorem rearranged (T : Tables x2 x3 x4 x5) (h0 : ∀ g i, ∃ r : ℝ, x0 (ix2 g i) = r) (h1 : ∀ g i, ∃ r : ℝ, x1 (ix2 g i) = r)
    (g : Fin 32) (i j : Fin 32) (k : Fin 30) :
    k0_pay91 x0 x1 x2 x3 x4 x5 (ix2 ⟨(g : ℕ) * 8 + i / 4, by omega⟩ ⟨(k : ℕ) * 128 + ((i : ℕ) % 4 * 32 + j), by omega⟩)
      = dist x0 x1 g i ⟨k, by omega⟩ := by
  have hd : ∀ y : Fin 128, k0_pay86 x0 x1 x2 x3 x4 x5 (ix2 ⟨(g : ℕ) * 8 + i / 4, by omega⟩ y)
      = dist x0 x1 g ⟨(i : ℕ) / 4 * 4 + y / 32, by omega⟩ ⟨(y : ℕ) % 32, by omega⟩ := by
    intro y
    rw [← distances T h0 h1]
    congr 2 <;> refine Fin.ext ?_ <;> simp only <;> omega
  have key := split_sel (fun y : Fin 128 => k0_pay86 x0 x1 x2 x3 x4 x5 (ix2 ⟨(g : ℕ) * 8 + i / 4, by omega⟩ y))
    (fun y => x5 (ix2 y ⟨(k : ℕ) * 128 + ((i : ℕ) % 4 * 32 + j), by omega⟩)) (fun y => by rw [hd]; exact dist_real h0 h1 _ _ _)
    ⟨(i : ℕ) % 4 * 32 + k, by omega⟩ (fun y => by
      rw [T.rearrange]
      have : ((k : ℕ) * 128 + ((i : ℕ) % 4 * 32 + j)) % 128 / 32 * 32 + ((k : ℕ) * 128 + ((i : ℕ) % 4 * 32 + j)) / 128 = i % 4 * 32 + k := by omega
      simp only [this, Fin.ext_iff])
  refine Eq.trans ?_ (key.trans ((hd _).trans ?_))
  · unfold k0_pay91 k0_pay90 k0_pay89 k0_pay88
    rw [View.ld_unit_lit _ x5 (by decide)]
    pointwise [k0_pay19, k0_pay15, k0_pay16, k0_pay17, k0_pay18, k0_pay86]
  · congr 1 <;> refine Fin.ext ?_ <;> simp only <;> omega

/-- The node that a column belongs to. -/
theorem node (r : Fin 256) (c : Fin 128) : k0_pay87 x0 x1 x2 x3 x4 x5 (ix2 r c) = BitVec.ofNat 32 ((c : ℕ) % 32) := by
  unfold k0_pay87
  pointwise [k0_pay14]
  revert c
  decide +kernel

/-- The block the first call stores: nought for the ten nearest nodes, minus infinity for the others. -/
theorem out (T : Tables x2 x3 x4 x5) (h0 : ∀ g i, ∃ r : ℝ, x0 (ix2 g i) = r) (h1 : ∀ g i, ∃ r : ℝ, x1 (ix2 g i) = r)
    (g i : Fin 32) (j : Fin 30) :
    out0_6 x0 x1 x2 x3 x4 x5 (ix2 ⟨(g : ℕ) * 8 + i / 4, by omega⟩ ⟨(i : ℕ) % 4 * 32 + j, by omega⟩)
      = if (before (fun k => dist x0 x1 g i ⟨k, by omega⟩) j).card < 10 then (0 : EReal) else ⊥ := by
  have hm : Named.named (F := Ideal) (φ := .f32) κ "mask" 0xF149F2CA#32 = (⊥ : EReal) :=
    IdealRules.named_const.ideal_named_scalar κ "mask" _ _ rfl
  have hp : ∀ (v : IVec S256x128 1) (r : Fin 256) (c : Fin 128), k0_pay1 (F := Ideal) v (ix2 r c) = Scalar.select (v (ix2 r c)) (0 : EReal) ⊥ := by
    intro v r c
    pointwise [k0_pay1, hm]
  unfold out0_6
  rw [View.canon_cons_unit_lit _ _ _ (by decide), hp]
  refine (congrArg (Scalar.select · (0 : EReal) ⊥) (rank_chain (k0_pay86 x0 x1 x2 x3 x4 x5) (k0_pay87 x0 x1 x2 x3 x4 x5)
    (k0_pay91 x0 x1 x2 x3 x4 x5) (k0_pay88 x0 x1 x2 x3 x4 x5) (k0_pay89 x0 x1 x2 x3 x4 x5) (k0_pay90 x0 x1 x2 x3 x4 x5)
    (View.ld x5 r0_3) rfl _ _)).trans ?_
  have hv := votes_eq (fun k => dist x0 x1 g i ⟨k, by omega⟩) j
    (fun k => k0_pay91 x0 x1 x2 x3 x4 x5 (ix2 ⟨(g : ℕ) * 8 + i / 4, by omega⟩ (Fin.ofNat 3840 (k * 128 + ((i : ℕ) % 4 * 32 + j))))) (fun k => by
      refine Eq.trans (congrArg (fun q => k0_pay91 x0 x1 x2 x3 x4 x5 (ix2 _ q)) (Fin.ext ?_)) (rearranged T h0 h1 g i ⟨j, by omega⟩ k)
      exact Nat.mod_eq_of_lt (by omega))
  have e5 : ((i : ℕ) % 4 * 32 + j) % 32 = j := by omega
  have hd := distances T h0 h1 g i ⟨j, by omega⟩
  rw [node]
  simp only at hd hv ⊢
  rw [e5, hd, hv, ofBits_ten]
  by_cases hc : (before (fun k => dist x0 x1 g i ⟨k, by omega⟩) j).card < 10 <;> simp [Ideal.cmp, Scalar.select, hc]

end Out

end Cert.Proof.Mask

end
-- ==== Proof.Model.lean ====
/- What both programs compute, as a function of the arguments' elements. -/
module

public import proofs.«01_k».proof.Proof.Edge
public import proofs.«01_k».proof.Proof.Mask

@[expose] public section

noncomputable section

namespace Cert.Proof.Model

open Idealize.ShloMosaic Cert.Proof.Edge

/-- The elements of the seventeen arguments: the nodes' coordinates, the scores of their targets, the weights. -/
structure Inputs where
  /-- The coordinates of a sample's nodes, two for each. -/
  place : Fin 1024 → Fin 60 → EReal
  /-- The scores of the nodes' targets. -/
  target : Fin 30720 → Fin 2 → EReal
  /-- The network. -/
  net : Net

namespace Inputs

variable (I : Inputs)

/-- The four inputs of node `i` of sample `b`. -/
def node (b : Fin 1024) (i : Fin 30) (k : Fin 4) : EReal :=
  if h : (k : ℕ) < 2 then I.place b ⟨i * 2 + k, by omega⟩ else Ideal.tanh (I.target ⟨b * 30 + i, by omega⟩ ⟨k - 2, by omega⟩)

/-- The squared distance of two nodes of a sample, a large number added where they are the same node. -/
def dist (b : Fin 1024) (i j : Fin 30) : EReal :=
  (I.place b ⟨i * 2, by omega⟩ - I.place b ⟨j * 2, by omega⟩) * (I.place b ⟨i * 2, by omega⟩ - I.place b ⟨j * 2, by omega⟩)
    + (I.place b ⟨i * 2 + 1, by omega⟩ - I.place b ⟨j * 2 + 1, by omega⟩)
      * (I.place b ⟨i * 2 + 1, by omega⟩ - I.place b ⟨j * 2 + 1, by omega⟩)
    + if i = j then Ideal.ofBits .f32 0x501502F9#32 else 0

/-- The features a node has of itself. -/
def feature (b : Fin 1024) (i : Fin 30) : Fin 128 → EReal := I.net.feature (I.node b i)

/-- The features a node has of its category. -/
def category (i : Fin 30) : Fin 64 → EReal := I.net.category ⟨i / 10, by omega⟩

/-- The message from node `j` to node `i`, without its offset. -/
def edge (b : Fin 1024) (i j : Fin 30) (h : Fin 128) : EReal :=
  I.net.message (fun q => I.net.left (I.feature b i) (I.category i) q + I.net.right (I.feature b j) (I.category j) q) h

/-- The maximum of the messages from the ten nearest nodes. -/
def pooled (b : Fin 1024) (i : Fin 30) (h : Fin 128) : EReal :=
  (Finset.univ : Finset (Fin 30)).sup fun j => I.edge b i j h + if (Mask.before (I.dist b i) j).card < 10 then 0 else ⊥

/-- The actor's four numbers for a node. -/
def score (b : Fin 1024) (i : Fin 30) (c : Fin 4) : EReal := I.net.actor (fun h => I.pooled b i h + I.net.bm2 h) c

/-- The mean the actor gives, `k` the coordinate. -/
def mean (b : Fin 1024) (i : Fin 30) (k : Fin 2) : EReal :=
  Ideal.tanh (I.score b i ⟨k, by omega⟩) + Ideal.tanh (I.target ⟨b * 30 + i, by omega⟩ k)

/-- The standard deviation the actor gives, `k` the coordinate. -/
def spread (b : Fin 1024) (i : Fin 30) (k : Fin 2) : EReal := deviation (I.score b i ⟨2 + k, by omega⟩)

end Inputs

end Cert.Proof.Model

end
-- ==== Proof.Fused.lean ====
/- What the second kernel call stores, read at an index. -/
module

public import proofs.«01_k».proof.Proof.Gen.KernelIdeal.Frame
public import proofs.«01_k».proof.Proof.Edge
public import Idealize.ShloMosaic.Lib.Pointwise

@[expose] public section

set_option maxRecDepth 16384

noncomputable section

namespace Cert.Proof.Fused

open Idealize.ShloMosaic Cert.KernelIdeal Cert.KernelIdeal.Gen Cert.Proof.Edge

section Steps

variable (A B : FVec Ideal S32x32x128 .bf16) (bias : FVec Ideal S1024x32 .bf16) (W : FVec Ideal S128x128 .bf16)

/-- The message of node `j` to node `i` of sample `g`. -/
def msg (g i : Fin 32) (h : Fin 128) (j : Fin 32) : EReal :=
  ∑ x : Fin 128, Ideal.tanh (A (ix3 g i x) + B (ix3 g j x)) * W (ix2 x h)

/-- The message with its bias. -/
def term (g i : Fin 32) (h : Fin 128) (j : Fin 32) : EReal :=
  msg A B W g i h j + bias (ix2 ⟨(g : ℕ) * 32 + i, by omega⟩ j)

variable (acc e : FVec Ideal S32x32x128 .f32) (g i : Fin 32) (h : Fin 128)

/-- The maximum after nodes 1 to 4: node 1's message comes in computed, the other three are computed here. -/
theorem pay16 : k1_pay16 A B bias W acc e (ix3 g i h)
    = max (max (max (max (acc (ix3 g i h)) (e (ix3 g i h) + bias (ix2 ⟨(g : ℕ) * 32 + i, by omega⟩ 1)))
        (term A B bias W g i h 2)) (term A B bias W g i h 3)) (term A B bias W g i h 4) := by
  pointwise [k1_pay16, term, msg]

/-- The maximum after nodes 5 to 8: node 5's message comes in computed, the other three are computed here. -/
theorem pay18 : k1_pay18 A B bias W acc e (ix3 g i h)
    = max (max (max (max (acc (ix3 g i h)) (e (ix3 g i h) + bias (ix2 ⟨(g : ℕ) * 32 + i, by omega⟩ 5)))
        (term A B bias W g i h 6)) (term A B bias W g i h 7)) (term A B bias W g i h 8) := by
  pointwise [k1_pay18, term, msg]

/-- The maximum after nodes 9 to 12: node 9's message comes in computed, the other three are computed here. -/
theorem pay20 : k1_pay20 A B bias W acc e (ix3 g i h)
    = max (max (max (max (acc (ix3 g i h)) (e (ix3 g i h) + bias (ix2 ⟨(g : ℕ) * 32 + i, by omega⟩ 9)))
        (term A B bias W g i h 10)) (term A B bias W g i h 11)) (term A B bias W g i h 12) := by
  pointwise [k1_pay20, term, msg]

/-- The maximum after nodes 13 to 16: node 13's message comes in computed, the other three are computed here. -/
theorem pay22 : k1_pay22 A B bias W acc e (ix3 g i h)
    = max (max (max (max (acc (ix3 g i h)) (e (ix3 g i h) + bias (ix2 ⟨(g : ℕ) * 32 + i, by omega⟩ 13)))
        (term A B bias W g i h 14)) (term A B bias W g i h 15)) (term A B bias W g i h 16) := by
  pointwise [k1_pay22, term, msg]

/-- The maximum after nodes 17 to 20: node 17's message comes in computed, the other three are computed here. -/
theorem pay24 : k1_pay24 A B bias W acc e (ix3 g i h)
    = max (max (max (max (acc (ix3 g i h)) (e (ix3 g i h) + bias (ix2 ⟨(g : ℕ) * 32 + i, by omega⟩ 17)))
        (term A B bias W g i h 18)) (term A B bias W g i h 19)) (term A B bias W g i h 20) := by
  pointwise [k1_pay24, term, msg]

/-- The maximum after nodes 21 to 24: node 21's message comes in computed, the other three are computed here. -/
theorem pay26 : k1_pay26 A B bias W acc e (ix3 g i h)
    = max (max (max (max (acc (ix3 g i h)) (e (ix3 g i h) + bias (ix2 ⟨(g : ℕ) * 32 + i, by omega⟩ 21)))
        (term A B bias W g i h 22)) (term A B bias W g i h 23)) (term A B bias W g i h 24) := by
  pointwise [k1_pay26, term, msg]

/-- The maximum after nodes 25 to 28: node 25's message comes in computed, the other three are computed here. -/
theorem pay28 : k1_pay28 A B bias W acc e (ix3 g i h)
    = max (max (max (max (acc (ix3 g i h)) (e (ix3 g i h) + bias (ix2 ⟨(g : ℕ) * 32 + i, by omega⟩ 25)))
        (term A B bias W g i h 26)) (term A B bias W g i h 27)) (term A B bias W g i h 28) := by
  pointwise [k1_pay28, term, msg]

/-- The message of node 5, its bias not yet added. -/
theorem pay17 : k1_pay17 A B W (ix3 g i h) = msg A B W g i h 5 := by pointwise [k1_pay17, msg]

/-- The message of node 9, its bias not yet added. -/
theorem pay19 : k1_pay19 A B W (ix3 g i h) = msg A B W g i h 9 := by pointwise [k1_pay19, msg]

/-- The message of node 13, its bias not yet added. -/
theorem pay21 : k1_pay21 A B W (ix3 g i h) = msg A B W g i h 13 := by pointwise [k1_pay21, msg]

/-- The message of node 17, its bias not yet added. -/
theorem pay23 : k1_pay23 A B W (ix3 g i h) = msg A B W g i h 17 := by pointwise [k1_pay23, msg]

/-- The message of node 21, its bias not yet added. -/
theorem pay25 : k1_pay25 A B W (ix3 g i h) = msg A B W g i h 21 := by pointwise [k1_pay25, msg]

/-- The message of node 25, its bias not yet added. -/
theorem pay27 : k1_pay27 A B W (ix3 g i h) = msg A B W g i h 25 := by pointwise [k1_pay27, msg]

/-- The message of node 29, its bias not yet added. -/
theorem pay29 : k1_pay29 A B W (ix3 g i h) = msg A B W g i h 29 := by pointwise [k1_pay29, msg]

end Steps

section Head

variable (v20 : FVec Ideal S1024x128 .f32) (v79 : FVec Ideal S1024x64 .f32) (v80 : Vec Ideal S384x128 .f32)
  (v90 : Vec Ideal S1x128 .f32) (v101 : Vec Ideal S1024x32 .bf16) (v103 : Vec Ideal S128x128 .f32)
  (g i : Fin 32) (h : Fin 128)

/-- The maximum after node 0: the message with its bias, against the mask's `-∞`. -/
theorem pay14 : k1_pay14 v20 v79 v80 v90 v101 v103 (ix3 g i h)
    = max ⊥ (term (k1_pay10 v20 v79 v80 v90) (k1_pay11 v20 v79 v80) (k1_pay12 v101) (k1_pay13 v103) g i h 0) := by
  have hm : Named.named (F := Ideal) (φ := .f32) κ "mask" 0xF149F2CA#32 = (⊥ : EReal) :=
    IdealRules.named_const.ideal_named_scalar κ "mask" _ _ rfl
  pointwise [k1_pay14, term, msg, hm]

/-- The message of node 1, its bias not yet added. -/
theorem pay15 : k1_pay15 v20 v79 v80 v90 v103 (ix3 g i h)
    = msg (k1_pay10 v20 v79 v80 v90) (k1_pay11 v20 v79 v80) (k1_pay13 v103) g i h 1 := by
  pointwise [k1_pay15, msg]

end Head

section Layers

/-- The category's features of node `i`: the row of its third of the nodes, picked by a product with a row of one 1. -/
theorem pay7 (cf3 : FVec Ideal S3x64 .f32) (bc : Vec Ideal S1x64 .f32) (g : Fin 32) (i : Fin 30) (q : Fin 64) :
    k1_pay7 cf3 (iota .tc S1024x3 32 [1] iota_S1024x3_d1_w32) (Scalar.select (Scalar.cmpi .eq 32#32 0#32) 1#32 32#32)
        k1_pay4 k1_pay5 k1_pay6 0#32 bc (ix2 (⟨(g : ℕ) * 32 + i, by omega⟩ : Fin 1024) q)
      = Ideal.tanh (cf3 (ix2 ⟨(i : ℕ) / 10, by omega⟩ q) + bc (ix2 0 q)) := by
  pointwise [k1_pay7, k1_pay4, k1_pay5, k1_pay6]
  refine congrArg Ideal.tanh (congrArg (· + _) ?_)
  rw [Finset.sum_eq_single (⟨(i : ℕ) / 10, by omega⟩ : Fin 3)]
  · refine (congrArg (Scalar.select · _ _) (?_ : _ = 1#1)).trans rfl
    clear cf3 bc q
    revert g i
    decide +kernel
  · intro x _ hx
    refine (congrArg (Scalar.select · _ _) (?_ : _ = 0#1)).trans rfl
    clear cf3 bc q
    revert g i x
    decide +kernel
  · exact fun h => absurd (Finset.mem_univ _) h

/-- The node's features: two layers over the coordinates and the bounded target scores. -/
theorem pay2 (v0 : Vec Ideal S1024x4 .f32) (w : Vec Ideal S4x128 .f32) (b : Vec Ideal S1x128 .f32) (w' : Vec Ideal S128x128 .f32)
    (b' : Vec Ideal S1x128 .f32) (r : Fin 1024) (h : Fin 128) :
    k1_pay2 v0 w b w' b' (ix2 r h)
      = Ideal.tanh (∑ x, Ideal.tanh (∑ k : Fin 4, (if (k : ℕ) < 2 then v0 (ix2 r k) else Ideal.tanh (v0 (ix2 r k))) * w (ix2 k x)
          + b (ix2 0 x)) * w' (ix2 x h) + b' (ix2 0 h)) := by
  have hs : ∀ (k : Fin 4) (a b : EReal), Scalar.select (IntOp.cmpi .slt (BitVec.ofNat 32 k) 2#32) a b = if (k : ℕ) < 2 then a else b := by
    intro k a b
    fin_vals k with hk <;> simp only [hk] <;> rfl
  pointwise [k1_pay2, k1_pay1, hs]

/-- The three categories' embeddings through their layer, before the bias. -/
theorem pay3 (emb : Vec Ideal S3x64 .f32) (w : Vec Ideal S64x64 .f32) (k : Fin 3) (q : Fin 64) :
    k1_pay3 emb w (ix2 k q) = ∑ x, Ideal.tanh (emb (ix2 k x)) * w (ix2 x q) := by
  pointwise [k1_pay3]

/-- The receiving node's part of an edge's first layer: its features against the upper half of the weights less the
lower half. -/
theorem pay10 (v20 : FVec Ideal S1024x128 .f32) (v79 : FVec Ideal S1024x64 .f32) (w : Vec Ideal S384x128 .f32)
    (b : Vec Ideal S1x128 .f32) (g i : Fin 32) (q : Fin 128) :
    k1_pay10 v20 v79 w b (ix3 g i q)
      = ∑ x, v20 (ix2 ⟨(g : ℕ) * 32 + i, by omega⟩ x) * (w (ix2 ⟨x, by omega⟩ q) - w (ix2 ⟨192 + x, by omega⟩ q))
        + ∑ x, v79 (ix2 ⟨(g : ℕ) * 32 + i, by omega⟩ x) * (w (ix2 ⟨128 + x, by omega⟩ q) - w (ix2 ⟨320 + x, by omega⟩ q))
        + b (ix2 0 q) := by
  pointwise [k1_pay10, k1_pay8, k1_pay9]

/-- The sending node's part of an edge's first layer: its features against the lower half of the weights. -/
theorem pay11 (v20 : FVec Ideal S1024x128 .f32) (v79 : FVec Ideal S1024x64 .f32) (w : Vec Ideal S384x128 .f32)
    (g i : Fin 32) (q : Fin 128) :
    k1_pay11 v20 v79 w (ix3 g i q)
      = ∑ x, v20 (ix2 ⟨(g : ℕ) * 32 + i, by omega⟩ x) * w (ix2 ⟨192 + x, by omega⟩ q)
        + ∑ x, v79 (ix2 ⟨(g : ℕ) * 32 + i, by omega⟩ x) * w (ix2 ⟨320 + x, by omega⟩ q) := by
  pointwise [k1_pay11, k1_pay8, k1_pay9]

/-- The actor's four scores of node `i`, from the maximum over all thirty nodes. -/
theorem pay30 (bias : FVec Ideal S1024x32 .bf16) (acc e : FVec Ideal S32x32x128 .f32) (b2 : Vec Ideal S1x128 .f32)
    (w1 : Vec Ideal S128x128 .f32) (b1 : Vec Ideal S1x128 .f32) (w2 : Vec Ideal S128x4 .f32) (b3 : Vec Ideal S1x4 .f32)
    (g i : Fin 32) (c : Fin 4) :
    k1_pay30 bias acc e b2 w1 b1 w2 b3 (ix2 (⟨(g : ℕ) * 32 + i, by omega⟩ : Fin 1024) c)
      = ∑ x, Ideal.tanh (∑ y, Ideal.tanh (max (acc (ix3 g i y)) (e (ix3 g i y) + bias (ix2 ⟨(g : ℕ) * 32 + i, by omega⟩ 29))
          + b2 (ix2 0 y)) * w1 (ix2 y x) + b1 (ix2 0 x)) * w2 (ix2 x c) + b3 (ix2 0 c) := by
  have h1 : ((g : ℕ) * 32 + i) / 32 = g := by omega
  have h2 : ((g : ℕ) * 32 + i) % 32 = i := by omega
  pointwise [k1_pay30, h1, h2]

/-- The mean stored: the bounded score and the bounded target score. -/
theorem pay31 (v6 : FVec Ideal S1024x4 .f32) (bias : FVec Ideal S1024x32 .bf16) (acc e : FVec Ideal S32x32x128 .f32) (b2 : Vec Ideal S1x128 .f32)
    (w1 : Vec Ideal S128x128 .f32) (b1 : Vec Ideal S1x128 .f32) (w2 : Vec Ideal S128x4 .f32) (b3 : Vec Ideal S1x4 .f32)
    (r : Fin 1024) (c : Fin 2) :
    k1_pay31 v6 bias acc e b2 w1 b1 w2 b3 (ix2 r c)
      = Ideal.tanh (k1_pay30 bias acc e b2 w1 b1 w2 b3 (ix2 r ⟨c, by omega⟩)) + v6 (ix2 r ⟨2 + c, by omega⟩) := by
  pointwise [k1_pay31]

/-- The deviation stored, from the last two scores. -/
theorem pay32 (bias : FVec Ideal S1024x32 .bf16) (acc e : FVec Ideal S32x32x128 .f32) (b2 : Vec Ideal S1x128 .f32)
    (w1 : Vec Ideal S128x128 .f32) (b1 : Vec Ideal S1x128 .f32) (w2 : Vec Ideal S128x4 .f32) (b3 : Vec Ideal S1x4 .f32)
    (r : Fin 1024) (c : Fin 2) :
    k1_pay32 bias acc e b2 w1 b1 w2 b3 (ix2 r c)
      = deviation (k1_pay30 bias acc e b2 w1 b1 w2 b3 (ix2 r ⟨2 + c, by omega⟩)) := by
  pointwise [k1_pay32, deviation]

/-- The last two of a node's four inputs are bounded, the coordinates being left as they are. -/
theorem pay1 (v0 : Vec Ideal S1024x4 .f32) (r : Fin 1024) (c : Fin 2) :
    k1_pay1 v0 (ix2 r ⟨2 + c, by omega⟩) = Ideal.tanh (v0 (ix2 r ⟨2 + c, by omega⟩)) := by
  pointwise [k1_pay1]
  fin_vals c with hc <;> simp only [hc] <;> rfl

end Layers

end Cert.Proof.Fused

end
-- ==== Proof.FusedOut.lean ====
/- The second kernel call's output block, index by index, from its input blocks. -/
module

public import proofs.«01_k».proof.Proof.Fused
public import Idealize.ShloMosaic.Lib.Pipeline.ValueKit

@[expose] public section

set_option maxRecDepth 16384

noncomputable section

namespace Cert.Proof.Fused

open Idealize.ShloMosaic Cert.KernelIdeal Cert.KernelIdeal.Gen Cert.Proof.Edge

/-- The four running maxima of the loop over the sending nodes, all chunks composed. -/
theorem chain (A B : FVec Ideal S32x32x128 .bf16) (bias : FVec Ideal S1024x32 .bf16) (W : FVec Ideal S128x128 .bf16)
    (a0 e1 : FVec Ideal S32x32x128 .f32) (g i : Fin 32) (h : Fin 128)
    (h0 : a0 (ix3 g i h) = max ⊥ (term A B bias W g i h 0)) (h1 : e1 (ix3 g i h) = msg A B W g i h 1) :
    max (k1_pay28 A B bias W (k1_pay26 A B bias W (k1_pay24 A B bias W (k1_pay22 A B bias W (k1_pay20 A B bias W
        (k1_pay18 A B bias W (k1_pay16 A B bias W a0 e1) (k1_pay17 A B W)) (k1_pay19 A B W)) (k1_pay21 A B W)) (k1_pay23 A B W))
        (k1_pay25 A B W)) (k1_pay27 A B W) (ix3 g i h))
      (k1_pay29 A B W (ix3 g i h) + bias (ix2 ⟨(g : ℕ) * 32 + i, by omega⟩ 29))
      = (Finset.univ : Finset (Fin 30)).sup fun j => term A B bias W g i h ⟨j, by omega⟩ := by
  have key : ∀ f : Fin 32 → EReal, foldMax (fun n => f (Fin.ofNat 32 n)) 30 = (Finset.univ : Finset (Fin 30)).sup fun j => f ⟨j, by omega⟩ := by
    intro f
    rw [foldMax_eq]
    refine le_antisymm (Finset.sup_le fun n hn => ?_) (Finset.sup_le fun j _ => ?_)
    · have hn : n < 30 := Finset.mem_range.1 hn
      refine le_trans (le_of_eq (congrArg f (Fin.ext ?_))) (Finset.le_sup (f := fun j : Fin 30 => f ⟨j, by omega⟩) (Finset.mem_univ (⟨n, hn⟩ : Fin 30)))
      exact Nat.mod_eq_of_lt (by omega)
    · refine le_trans (le_of_eq (congrArg f (Fin.ext ?_))) (Finset.le_sup (f := fun n => f (Fin.ofNat 32 n)) (Finset.mem_range.2 j.2))
      exact (Nat.mod_eq_of_lt (by omega)).symm
  rw [← key (term A B bias W g i h)]
  rw [pay28, pay27, pay26, pay25, pay24, pay23, pay22, pay21, pay20, pay19, pay18, pay17, pay16, pay29, h0, h1]
  rfl

section Out

variable (x0 : Vec Ideal S1024x4 .f32) (x1 : Vec Ideal S1024x32 .bf16) (x2 : Vec Ideal S4x128 .f32) (x3 : Vec Ideal S1x128 .f32)
  (x4 : Vec Ideal S128x128 .f32) (x5 : Vec Ideal S1x128 .f32) (x6 : Vec Ideal S3x64 .f32) (x7 : Vec Ideal S64x64 .f32)
  (x8 : Vec Ideal S1x64 .f32) (x9 : Vec Ideal S384x128 .f32) (x10 : Vec Ideal S1x128 .f32) (x11 : Vec Ideal S128x128 .f32)
  (x12 : Vec Ideal S1x128 .f32) (x13 : Vec Ideal S128x128 .f32) (x14 : Vec Ideal S1x128 .f32) (x15 : Vec Ideal S128x4 .f32)
  (x16 : Vec Ideal S1x4 .f32)

/-- The network whose weights the blocks hold. -/
def net : Net where
  W1a k q := x2 (ix2 k q)
  b1a q := x3 (ix2 0 q)
  W1b k q := x4 (ix2 k q)
  b1b q := x5 (ix2 0 q)
  emb k q := x6 (ix2 k q)
  Wc k q := x7 (ix2 k q)
  bc q := x8 (ix2 0 q)
  Wm1 k q := x9 (ix2 k q)
  bm1 q := x10 (ix2 0 q)
  Wm2 k q := x11 (ix2 k q)
  bm2 q := x12 (ix2 0 q)
  Ws1 k q := x13 (ix2 k q)
  bs1 q := x14 (ix2 0 q)
  Ws2 k q := x15 (ix2 k q)
  bs2 q := x16 (ix2 0 q)

/-- A node's four inputs: its coordinates, and the hyperbolic tangents of its target scores. -/
def inputs (r : Fin 1024) (k : Fin 4) : EReal := if (k : ℕ) < 2 then x0 (ix2 r k) else Ideal.tanh (x0 (ix2 r k))

/-- The loop's first four values: the two halves of the edges' first layer, from the features and the categories. -/
theorem pay33 (r : Fin 1024) (q : Fin 128) : k1_pay33 x0 x1 x2 x3 x4 x5 x6 x7 x8 x9 x10 x11 x12 x13 x14 x15 x16 (ix2 r q) = (net x2 x3 x4 x5 x6 x7 x8 x9 x10 x11 x12 x13 x14 x15 x16).feature (inputs x0 r) q := by
  unfold k1_pay33
  rw [pay2, View.ld_unit_lit _ x0 (by decide), View.ld_unit_lit _ x2 (by decide), View.ld_unit_lit _ x3 (by decide),
    View.ld_unit_lit _ x4 (by decide), View.ld_unit_lit _ x5 (by decide)]
  rfl

/-- The categories' features at a real node. -/
theorem pay34 (g : Fin 32) (i : Fin 30) (q : Fin 64) :
    k1_pay34 x0 x1 x2 x3 x4 x5 x6 x7 x8 x9 x10 x11 x12 x13 x14 x15 x16 (ix2 ⟨(g : ℕ) * 32 + i, by omega⟩ q) = (net x2 x3 x4 x5 x6 x7 x8 x9 x10 x11 x12 x13 x14 x15 x16).category ⟨(i : ℕ) / 10, by omega⟩ q := by
  unfold k1_pay34
  rw [pay7, pay3, View.ld_unit_lit _ x6 (by decide), View.ld_unit_lit _ x7 (by decide), View.ld_unit_lit _ x8 (by decide)]
  rfl

/-- The receiving node's half. -/
theorem pay35 (g : Fin 32) (i : Fin 30) (q : Fin 128) :
    k1_pay35 x0 x1 x2 x3 x4 x5 x6 x7 x8 x9 x10 x11 x12 x13 x14 x15 x16 (ix3 g (⟨i, by omega⟩ : Fin 32) q)
      = (net x2 x3 x4 x5 x6 x7 x8 x9 x10 x11 x12 x13 x14 x15 x16).left ((net x2 x3 x4 x5 x6 x7 x8 x9 x10 x11 x12 x13 x14 x15 x16).feature (inputs x0 ⟨(g : ℕ) * 32 + i, by omega⟩)) ((net x2 x3 x4 x5 x6 x7 x8 x9 x10 x11 x12 x13 x14 x15 x16).category ⟨(i : ℕ) / 10, by omega⟩) q := by
  unfold k1_pay35
  rw [pay10, View.ld_unit_lit _ x9 (by decide), View.ld_unit_lit _ x10 (by decide)]
  simp only [pay33, pay34]
  rfl

/-- The sending node's half. -/
theorem pay36 (g : Fin 32) (i : Fin 30) (q : Fin 128) :
    k1_pay36 x0 x1 x2 x3 x4 x5 x6 x7 x8 x9 x10 x11 x12 x13 x14 x15 x16 (ix3 g (⟨i, by omega⟩ : Fin 32) q)
      = (net x2 x3 x4 x5 x6 x7 x8 x9 x10 x11 x12 x13 x14 x15 x16).right ((net x2 x3 x4 x5 x6 x7 x8 x9 x10 x11 x12 x13 x14 x15 x16).feature (inputs x0 ⟨(g : ℕ) * 32 + i, by omega⟩)) ((net x2 x3 x4 x5 x6 x7 x8 x9 x10 x11 x12 x13 x14 x15 x16).category ⟨(i : ℕ) / 10, by omega⟩) q := by
  unfold k1_pay36
  rw [pay11, View.ld_unit_lit _ x9 (by decide)]
  simp only [pay33, pay34]
  rfl

/-- The maximum over the sending nodes, for node `i` of sample `g`. -/
def aggregate (g : Fin 32) (i : Fin 30) (h : Fin 128) : EReal :=
  (Finset.univ : Finset (Fin 30)).sup fun j =>
    (net x2 x3 x4 x5 x6 x7 x8 x9 x10 x11 x12 x13 x14 x15 x16).message (fun q => (net x2 x3 x4 x5 x6 x7 x8 x9 x10 x11 x12 x13 x14 x15 x16).left ((net x2 x3 x4 x5 x6 x7 x8 x9 x10 x11 x12 x13 x14 x15 x16).feature (inputs x0 ⟨(g : ℕ) * 32 + i, by omega⟩)) ((net x2 x3 x4 x5 x6 x7 x8 x9 x10 x11 x12 x13 x14 x15 x16).category ⟨(i : ℕ) / 10, by omega⟩) q
      + (net x2 x3 x4 x5 x6 x7 x8 x9 x10 x11 x12 x13 x14 x15 x16).right ((net x2 x3 x4 x5 x6 x7 x8 x9 x10 x11 x12 x13 x14 x15 x16).feature (inputs x0 ⟨(g : ℕ) * 32 + j, by omega⟩)) ((net x2 x3 x4 x5 x6 x7 x8 x9 x10 x11 x12 x13 x14 x15 x16).category ⟨(j : ℕ) / 10, by omega⟩) q) h
    + x1 (ix2 ⟨(g : ℕ) * 32 + i, by omega⟩ ⟨j, by omega⟩)

/-- The loop over the sending nodes computes the maximum. -/
theorem loop (g : Fin 32) (i : Fin 30) (h : Fin 128) :
    max (k1_pay39 x0 x1 x2 x3 x4 x5 x6 x7 x8 x9 x10 x11 x12 x13 x14 x15 x16 (ix3 g (⟨i, by omega⟩ : Fin 32) h)) (k1_pay40 x0 x1 x2 x3 x4 x5 x6 x7 x8 x9 x10 x11 x12 x13 x14 x15 x16 (ix3 g (⟨i, by omega⟩ : Fin 32) h)
        + k1_pay37 x0 x1 x2 x3 x4 x5 x6 x7 x8 x9 x10 x11 x12 x13 x14 x15 x16 (ix2 ⟨(g : ℕ) * 32 + i, by omega⟩ 29))
      = aggregate x0 x1 x2 x3 x4 x5 x6 x7 x8 x9 x10 x11 x12 x13 x14 x15 x16 g i h := by
  have c := chain (k1_pay35 x0 x1 x2 x3 x4 x5 x6 x7 x8 x9 x10 x11 x12 x13 x14 x15 x16) (k1_pay36 x0 x1 x2 x3 x4 x5 x6 x7 x8 x9 x10 x11 x12 x13 x14 x15 x16) (k1_pay37 x0 x1 x2 x3 x4 x5 x6 x7 x8 x9 x10 x11 x12 x13 x14 x15 x16) (k1_pay38 x0 x1 x2 x3 x4 x5 x6 x7 x8 x9 x10 x11 x12 x13 x14 x15 x16) _ _ g ⟨i, by omega⟩ h
    (pay14 (k1_pay33 x0 x1 x2 x3 x4 x5 x6 x7 x8 x9 x10 x11 x12 x13 x14 x15 x16) (k1_pay34 x0 x1 x2 x3 x4 x5 x6 x7 x8 x9 x10 x11 x12 x13 x14 x15 x16) (View.ld x9 r1_7) (View.ld x10 r1_2) (View.ld x1 r1_8) (View.ld x11 r1_3) g ⟨i, by omega⟩ h)
    (pay15 (k1_pay33 x0 x1 x2 x3 x4 x5 x6 x7 x8 x9 x10 x11 x12 x13 x14 x15 x16) (k1_pay34 x0 x1 x2 x3 x4 x5 x6 x7 x8 x9 x10 x11 x12 x13 x14 x15 x16) (View.ld x9 r1_7) (View.ld x10 r1_2) (View.ld x11 r1_3) g ⟨i, by omega⟩ h)
  refine c.trans ?_
  unfold aggregate
  refine Finset.sup_congr rfl fun j _ => ?_
  unfold term msg
  simp only [pay35, pay36]
  unfold k1_pay37 k1_pay38
  rw [View.ld_unit_lit _ x1 (by decide), View.ld_unit_lit _ x11 (by decide)]
  unfold Net.message net
  pointwise [k1_pay12, k1_pay13]

/-- The actor's numbers for node `i` of sample `g`. -/
theorem actor_eq (g : Fin 32) (i : Fin 30) (c : Fin 4) :
    k1_pay30 (k1_pay37 x0 x1 x2 x3 x4 x5 x6 x7 x8 x9 x10 x11 x12 x13 x14 x15 x16) (k1_pay39 x0 x1 x2 x3 x4 x5 x6 x7 x8 x9 x10 x11 x12 x13 x14 x15 x16) (k1_pay40 x0 x1 x2 x3 x4 x5 x6 x7 x8 x9 x10 x11 x12 x13 x14 x15 x16) (View.ld x12 r1_2) (View.ld x13 r1_3) (View.ld x14 r1_2) (View.ld x15 r1_9)
        (View.ld x16 r1_10) (ix2 ⟨(g : ℕ) * 32 + i, by omega⟩ c)
      = (net x2 x3 x4 x5 x6 x7 x8 x9 x10 x11 x12 x13 x14 x15 x16).actor (fun h => aggregate x0 x1 x2 x3 x4 x5 x6 x7 x8 x9 x10 x11 x12 x13 x14 x15 x16 g i h + x12 (ix2 0 h)) c := by
  have e := pay30 (k1_pay37 x0 x1 x2 x3 x4 x5 x6 x7 x8 x9 x10 x11 x12 x13 x14 x15 x16) (k1_pay39 x0 x1 x2 x3 x4 x5 x6 x7 x8 x9 x10 x11 x12 x13 x14 x15 x16) (k1_pay40 x0 x1 x2 x3 x4 x5 x6 x7 x8 x9 x10 x11 x12 x13 x14 x15 x16) (View.ld x12 r1_2) (View.ld x13 r1_3) (View.ld x14 r1_2) (View.ld x15 r1_9)
    (View.ld x16 r1_10) g ⟨i, by omega⟩ c
  refine e.trans ?_
  simp only [loop]
  rw [View.ld_unit_lit _ x12 (by decide), View.ld_unit_lit _ x13 (by decide), View.ld_unit_lit _ x14 (by decide),
    View.ld_unit_lit _ x15 (by decide), View.ld_unit_lit _ x16 (by decide)]
  rfl

/-- The first two columns: the mean, with the target scores' hyperbolic tangents added. -/
theorem out_mean (g : Fin 32) (i : Fin 30) (c : Fin 2) :
    out1_17 x0 x1 x2 x3 x4 x5 x6 x7 x8 x9 x10 x11 x12 x13 x14 x15 x16 (ix2 ⟨(g : ℕ) * 32 + i, by omega⟩ ⟨c, by omega⟩)
      = Ideal.tanh ((net x2 x3 x4 x5 x6 x7 x8 x9 x10 x11 x12 x13 x14 x15 x16).actor (fun h => aggregate x0 x1 x2 x3 x4 x5 x6 x7 x8 x9 x10 x11 x12 x13 x14 x15 x16 g i h + x12 (ix2 0 h)) ⟨c, by omega⟩)
        + Ideal.tanh (x0 (ix2 ⟨(g : ℕ) * 32 + i, by omega⟩ ⟨2 + c, by omega⟩)) := by
  unfold out1_17
  rw [View.canon_cons_of_not_mem]
  · refine (congrArg _ (?_ : _ = r1_11.emb (ix2 ⟨(g : ℕ) * 32 + i, by omega⟩ c))).trans ((View.canon_cons_emb _ _ _ _).trans ?_)
    · funext a
      refine Fin.ext ((?_ : _ = _).trans (ValueKit.rect_emb_unit_val _ _ _ _ a).symm)
      fin_cases a <;> simp [ix2]
    · rw [pay31, actor_eq, pay1, View.ld_unit_lit _ x0 (by decide)]
  · intro hy
    have hy' : _ ∈ r1_12.set := hy
    have hc : 2 ≤ (c : ℕ) := (((Rect.mem_set_unit (inb := inb_S1024x4_S1024x2_0_2)).1 hy') 1).1
    omega

/-- The last two columns: the standard deviation. -/
theorem out_deviation (g : Fin 32) (i : Fin 30) (c : Fin 2) :
    out1_17 x0 x1 x2 x3 x4 x5 x6 x7 x8 x9 x10 x11 x12 x13 x14 x15 x16 (ix2 ⟨(g : ℕ) * 32 + i, by omega⟩ ⟨2 + c, by omega⟩)
      = deviation ((net x2 x3 x4 x5 x6 x7 x8 x9 x10 x11 x12 x13 x14 x15 x16).actor (fun h => aggregate x0 x1 x2 x3 x4 x5 x6 x7 x8 x9 x10 x11 x12 x13 x14 x15 x16 g i h + x12 (ix2 0 h)) ⟨2 + c, by omega⟩) := by
  unfold out1_17
  refine (congrArg _ (?_ : _ = r1_12.emb (ix2 ⟨(g : ℕ) * 32 + i, by omega⟩ c))).trans ((View.canon_cons_emb _ _ _ _).trans ?_)
  · funext a
    refine Fin.ext ((?_ : _ = _).trans (ValueKit.rect_emb_unit_val _ _ _ _ a).symm)
    fin_cases a <;> simp [ix2]
  · rw [pay32, actor_eq]

end Out

end Cert.Proof.Fused

end
-- ==== Proof.Host.lean ====
/- What the host operations round the two kernel calls hold: the padded inputs, the 0/1 tables and the reshaped results. -/
module

public import proofs.«01_k».proof.Proof.Gen.KernelIdeal.Frame
public import Idealize.ShloMosaic.Lib.Pointwise
public import Idealize.ShloMosaic.Lib.StableHlo.ReadAt
public import Idealize.ShloMosaic.Lib.Routing.OpsSet
public import Idealize.ShloMosaic.Lib.Routing.OpsPair
public import proofs.«01_k».proof.Proof.Mask

@[expose] public section

set_option maxRecDepth 16384

noncomputable section

namespace Cert.Proof.Host

open Idealize.ShloMosaic Idealize.ShloMosaic.Routing Cert.KernelIdeal Cert.KernelIdeal.Gen

/-- An update of the 1024x32 array lands at its own row and column. -/
theorem lands2 (idx : IVec S1 32) (h : ∀ i, idx i = 0#32) (b b' : Fin 1024) (i : Fin 32) (i' : Fin 30) :
    scatter_S1024x32_S1_S1024x30_01_n_1_0.resultIdx? (ix2 b' i') idx = some (ix2 b i) ↔ (b' : ℕ) = b ∧ (i' : ℕ) = i := by
  refine (resultIdx?_ix2 _ _ idx b i).trans ?_
  have e0 : scatter_S1024x32_S1_S1024x30_01_n_1_0.start (ix2 b' i') idx 0 = 0 := rfl
  have e1 : scatter_S1024x32_S1_S1024x30_01_n_1_0.start (ix2 b' i') idx 1 = 0 := by
    refine (dif_pos (by decide)).trans ?_
    rw [h]; rfl
  have w0 : scatter_S1024x32_S1_S1024x30_01_n_1_0.window (ix2 b' i') 0 = b' := rfl
  have w1 : scatter_S1024x32_S1_S1024x30_01_n_1_0.window (ix2 b' i') 1 = i' := rfl
  rw [e0, e1, w0, w1]; omega

/-- The 1024x30 array set into the 1024x32 array: columns below thirty hold it, the others what was there. -/
theorem set2 {α : Type} (x : S1024x32.Idx → α) (idx : IVec S1 32) (h : ∀ i, idx i = 0#32) (u : S1024x30.Idx → α)
    (b : Fin 1024) (i : Fin 32) :
    Host.scatter scatter_S1024x32_S1_S1024x30_01_n_1_0 (fun _ b => b) x idx u (ix2 b i)
      = if hi : (i : ℕ) < 30 then u (ix2 b ⟨i, hi⟩) else x (ix2 b i) := by
  split
  next hi =>
    refine scatter_set_hit _ x idx u _ _ (fun k hk => ?_) (ix2 b ⟨i, hi⟩) ((lands2 idx h ..).2 ⟨rfl, rfl⟩)
    idx_vars k
    obtain ⟨h1, h2⟩ := (lands2 idx h ..).1 hk
    exact congrArg u (congrArg₂ ix2 (Fin.ext h1) (Fin.ext h2))
  next hi =>
    refine scatter_set_miss _ x idx u _ fun k hk => ?_
    idx_vars k
    have := ((lands2 idx h ..).1 hk).2
    omega

/-- An update of the 1024x32x4 array lands at its own row and column, its last coordinate moved by the second index word. -/
theorem lands3 (idx : IVec S2 32) (n : ℕ) (h0 : (idx (ix1 0)).toInt = 0) (h1 : (idx (ix1 1)).toInt = n)
    (b b' : Fin 1024) (i : Fin 32) (i' : Fin 30) (k : Fin 4) (k' : Fin 2) :
    scatter_S1024x32x4_S2_S1024x30x2_012_n_12_0.resultIdx? (ix3 b' i' k') idx = some (ix3 b i k)
      ↔ (b' : ℕ) = b ∧ (i' : ℕ) = i ∧ n + k' = k := by
  rw [resultIdx?_eq_some]
  have e0 : scatter_S1024x32x4_S2_S1024x30x2_012_n_12_0.start (ix3 b' i' k') idx 0 = 0 := rfl
  have e1 : scatter_S1024x32x4_S2_S1024x30x2_012_n_12_0.start (ix3 b' i' k') idx 1 = 0 := by
    refine (dif_pos (by decide)).trans (Eq.trans ?_ h0)
    exact congrArg (fun j => (idx j).toInt) (funext fun a => by fin_cases a; rfl)
  have e2 : scatter_S1024x32x4_S2_S1024x30x2_012_n_12_0.start (ix3 b' i' k') idx 2 = n := by
    refine (dif_pos (by decide)).trans (Eq.trans ?_ h1)
    exact congrArg (fun j => (idx j).toInt) (funext fun a => by fin_cases a; rfl)
  have w0 : scatter_S1024x32x4_S2_S1024x30x2_012_n_12_0.window (ix3 b' i' k') 0 = b' := rfl
  have w1 : scatter_S1024x32x4_S2_S1024x30x2_012_n_12_0.window (ix3 b' i' k') 1 = i' := rfl
  have w2 : scatter_S1024x32x4_S2_S1024x30x2_012_n_12_0.window (ix3 b' i' k') 2 = k' := rfl
  constructor
  · intro h
    have a0 := h 0
    have a1 := h 1
    have a2 := h 2
    rw [e0, w0] at a0
    rw [e1, w1] at a1
    rw [e2, w2] at a2
    change _ = ((b : ℕ) : ℤ) at a0
    change _ = ((i : ℕ) : ℤ) at a1
    change _ = ((k : ℕ) : ℤ) at a2
    omega
  · rintro ⟨a0, a1, a2⟩ a
    match a with
    | ⟨0, _⟩ => exact (congrArg₂ (fun (x : ℤ) (y : ℕ) => x + (y : ℤ)) e0 w0).trans (by change _ = ((b : ℕ) : ℤ); omega)
    | ⟨1, _⟩ => exact (congrArg₂ (fun (x : ℤ) (y : ℕ) => x + (y : ℤ)) e1 w1).trans (by change _ = ((i : ℕ) : ℤ); omega)
    | ⟨2, _⟩ => exact (congrArg₂ (fun (x : ℤ) (y : ℕ) => x + (y : ℤ)) e2 w2).trans (by change _ = ((k : ℕ) : ℤ); omega)

/-- The 1024x30x2 array set into the 1024x32x4 array at last coordinate `n`, read where it was set. -/
theorem set3_hit {α : Type} (x : S1024x32x4.Idx → α) (idx : IVec S2 32) (n : ℕ) (h0 : (idx (ix1 0)).toInt = 0)
    (h1 : (idx (ix1 1)).toInt = n) (u : S1024x30x2.Idx → α) (b : Fin 1024) (i : Fin 32) (i' : Fin 30) (k : Fin 4) (k' : Fin 2)
    (hi : (i' : ℕ) = i) (hk : n + k' = k) :
    Host.scatter scatter_S1024x32x4_S2_S1024x30x2_012_n_12_0 (fun _ b => b) x idx u (ix3 b i k) = u (ix3 b i' k') := by
  refine scatter_set_hit _ x idx u _ _ (fun j hj => ?_) (ix3 b i' k') ((lands3 idx n h0 h1 ..).2 ⟨rfl, hi, hk⟩)
  idx_vars j
  obtain ⟨a0, a1, a2⟩ := (lands3 idx n h0 h1 ..).1 hj
  have a2' := a2.trans hk.symm
  congr 1
  exact congr (congrArg₂ ix3 (Fin.ext a0) (Fin.ext (a1.trans hi.symm))) (Fin.ext (by omega))

/-- The same array read at a last coordinate below `n`: what was there. -/
theorem set3_miss {α : Type} (x : S1024x32x4.Idx → α) (idx : IVec S2 32) (n : ℕ) (h0 : (idx (ix1 0)).toInt = 0)
    (h1 : (idx (ix1 1)).toInt = n) (u : S1024x30x2.Idx → α) (b : Fin 1024) (i : Fin 32) (k : Fin 4) (hk : (k : ℕ) < n) :
    Host.scatter scatter_S1024x32x4_S2_S1024x30x2_012_n_12_0 (fun _ b => b) x idx u (ix3 b i k) = x (ix3 b i k) := by
  refine scatter_set_miss _ x idx u _ fun j hj => ?_
  idx_vars j
  have := ((lands3 idx n h0 h1 ..).1 hj).2.2
  omega

variable (m : (a : Loc nD τ sig) → Buf (Elt Ideal) a) (ρ : Dev nD → PrngReg) (c : Dev nD)

/-- A compare of two small words chosen between one and zero. -/
theorem select_eq (a b : ℕ) (ha : a < 2 ^ 32) (hb : b < 2 ^ 32) :
    Scalar.select (IntOp.cmpi .eq (BitVec.ofNat 32 a) (BitVec.ofNat 32 b)) (1 : EReal) 0 = if a = b then 1 else 0 := by
  by_cases h : a = b
  · subst h; simp [Scalar.select, IntOp.cmpi]
  · have e : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    have e' : (BitVec.ofNat 32 a == BitVec.ofNat 32 b) = false := beq_eq_false_iff_ne.2 e
    simp only [Scalar.select, IntOp.cmpi, e', if_neg h]
    rfl

/-- The table of a pair's first node. -/
theorem table_i (x : Fin 32) (f : Fin 1024) :
    (V7 m ρ c main_v29 : S32x1024.Idx → EReal) (ix2 x f) = if (x : ℕ) = f / 32 then (1 : EReal) else 0 := by
  rw [show V7 m ρ c main_v29 = W7 m ρ c (Proc.devRef .tc main_v29) from rfl, W7_of _ _ _ _ (by decide), W6_of _ _ _ _ (by decide),
    W5_of _ _ _ _ (by decide), W4_of _ _ _ _ (by decide)]
  unfold W3 W2 W1
  after_reads_at
  rw [show IntOp.divsi .host (BitVec.ofNat 32 f) 32#32 = BitVec.ofNat 32 (f / 32) by revert f; decide +kernel]
  exact select_eq _ _ (by omega) (by omega)

/-- The table of a pair's second node. -/
theorem table_j (x : Fin 32) (f : Fin 1024) :
    (V7 m ρ c main_v34 : S32x1024.Idx → EReal) (ix2 x f) = if (x : ℕ) = f % 32 then (1 : EReal) else 0 := by
  rw [show V7 m ρ c main_v34 = W7 m ρ c (Proc.devRef .tc main_v34) from rfl, W7_of _ _ _ _ (by decide), W6_of _ _ _ _ (by decide)]
  unfold W5 W4 W3 W2 W1
  after_reads_at
  rw [show IntOp.remsi .host (BitVec.ofNat 32 f) 32#32 = BitVec.ofNat 32 (f % 32) by revert f; decide +kernel]
  exact select_eq _ _ (by omega) (by omega)

/-- The table that moves a pair from its row-major place to the place the ranks are counted at. -/
theorem table_place (y : Fin 128) (q : Fin 3840) :
    (V7 m ρ c main_v48 : S128x3840.Idx → EReal) (ix2 y q) = if (y : ℕ) = q % 128 / 32 * 32 + q / 128 then (1 : EReal) else 0 := by
  rw [show V7 m ρ c main_v48 = W7 m ρ c (Proc.devRef .tc main_v48) from rfl]
  unfold W7 W6 W5
  after_reads_at
  rw [show IntOp.addi (IntOp.muli (IntOp.divsi .host (IntOp.remsi .host (BitVec.ofNat 32 q) 128#32) 32#32) 32#32)
      (IntOp.divsi .host (BitVec.ofNat 32 q) 128#32) = BitVec.ofNat 32 (q % 128 / 32 * 32 + q / 128) by revert q; decide +kernel]
  exact select_eq _ _ (by omega) (by omega)

/-- What is added to the distances: ten thousand million on the diagonal. -/
theorem table_diagonal (f : Fin 1024) :
    (V7 m ρ c main_v0 : S1x1024.Idx → EReal) (ix2 0 f)
      = if (f : ℕ) / 32 = f % 32 then Ideal.ofBits .f32 0x501502F9#32 else (0 : EReal) := by
  rw [show V7 m ρ c main_v0 = W7 m ρ c (Proc.devRef .tc main_v0) from rfl, W7_of _ _ _ _ (by decide), W6_of _ _ _ _ (by decide),
    W5_of _ _ _ _ (by decide), W4_of _ _ _ _ (by decide), W3_of _ _ _ _ (by decide), W2_of _ _ _ _ (by decide)]
  unfold W1
  after_reads_at
  rw [show lit0 (S1024.rowMajor (ix1 f)) = if (f : ℕ) / 32 = f % 32 then 0x501502F9#32 else 0#32 by revert f; decide +kernel]
  split
  · rfl
  · simp [Ideal.ofBits, Ideal.ieee]

/-- The first index word of the first write. -/
theorem word_v4 (V : Valuation τ sig (Elt Ideal)) (x : S1.Idx) :
    (StableHlo.upto hostOps0 V 10 (Proc.devRef .tc main_v4) : S1.Idx → BitVec 32) x = 0#32 := by
  idx_vars x
  after_reads_at

/-- The second index word of the first write. -/
theorem word_v5 (V : Valuation τ sig (Elt Ideal)) (x : S1.Idx) :
    (StableHlo.upto hostOps0 V 10 (Proc.devRef .tc main_v5) : S1.Idx → BitVec 32) x = 0#32 := by
  idx_vars x
  after_reads_at

/-- The first index word of the second write. -/
theorem word_v8 (V : Valuation τ sig (Elt Ideal)) (x : S1.Idx) :
    (StableHlo.upto hostOps0 V 16 (Proc.devRef .tc main_v8) : S1.Idx → BitVec 32) x = 0#32 := by
  idx_vars x
  after_reads_at

/-- The second index word of the second write. -/
theorem word_v9 (V : Valuation τ sig (Elt Ideal)) (x : S1.Idx) :
    (StableHlo.upto hostOps0 V 16 (Proc.devRef .tc main_v9) : S1.Idx → BitVec 32) x = 2#32 := by
  idx_vars x
  after_reads_at

/-- Two index words put together, the first of them. -/
theorem word_first (a b : IVec S1 32) :
    concatenate S2 0 [⟨S1, a⟩, ⟨S1, b⟩] concatenates_S1_S1_S2_d0 (ix1 0) = a (ix1 0) := by
  pointwise

/-- Two index words put together, the second of them. -/
theorem word_second (a b : IVec S1 32) :
    concatenate S2 0 [⟨S1, a⟩, ⟨S1, b⟩] concatenates_S1_S1_S2_d0 (ix1 1) = b (ix1 0) := by
  pointwise

/-- The padded first coordinates. -/
theorem first (b : Fin 1024) (i : Fin 32) :
    (V7 m ρ c main_v17 : S1024x32.Idx → EReal) (ix2 b i)
      = if hi : (i : ℕ) < 30 then (m (c.tc.loc main_arg0) : S1024x60.Idx → EReal) (ix2 b ⟨i * 2, by omega⟩)
        else Ideal.ofBits .f32 0x58635FA9#32 := by
  rw [show V7 m ρ c main_v17 = W7 m ρ c (Proc.devRef .tc main_v17) from rfl, W7_of _ _ _ _ (by decide), W6_of _ _ _ _ (by decide),
    W5_of _ _ _ _ (by decide), W4_of _ _ _ _ (by decide), W3_of _ _ _ _ (by decide), W2_of _ _ _ _ (by decide)]
  unfold W1
  after_reads_at
  refine (set2 _ _ (fun i => rfl) _ b i).trans ?_
  split <;> rfl

/-- The padded second coordinates. -/
theorem second (b : Fin 1024) (i : Fin 32) :
    (V7 m ρ c main_v22 : S1024x32.Idx → EReal) (ix2 b i)
      = if hi : (i : ℕ) < 30 then (m (c.tc.loc main_arg0) : S1024x60.Idx → EReal) (ix2 b ⟨i * 2 + 1, by omega⟩)
        else Ideal.ofBits .f32 0x58635FA9#32 := by
  rw [show V7 m ρ c main_v22 = W7 m ρ c (Proc.devRef .tc main_v22) from rfl, W7_of _ _ _ _ (by decide), W6_of _ _ _ _ (by decide),
    W5_of _ _ _ _ (by decide), W4_of _ _ _ _ (by decide), W3_of _ _ _ _ (by decide), W2_of _ _ _ _ (by decide)]
  unfold W1
  after_reads_at
  refine (set2 _ _ (fun i => rfl) _ b i).trans ?_
  split <;> rfl

/-- The padded nodes: the first two columns hold the positions. -/
theorem node_position (b : Fin 1024) (i : Fin 30) (k : Fin 2) :
    (V7 m ρ c main_v12 : S32768x4.Idx → EReal) (ix2 ⟨b * 32 + i, by omega⟩ ⟨k, by omega⟩)
      = (m (c.tc.loc main_arg0) : S1024x60.Idx → EReal) (ix2 b ⟨i * 2 + k, by omega⟩) := by
  rw [show V7 m ρ c main_v12 = W7 m ρ c (Proc.devRef .tc main_v12) from rfl, W7_of _ _ _ _ (by decide), W6_of _ _ _ _ (by decide),
    W5_of _ _ _ _ (by decide), W4_of _ _ _ _ (by decide), W3_of _ _ _ _ (by decide), W2_of _ _ _ _ (by decide)]
  unfold W1
  after_reads_at
  refine (set3_miss _ _ 2 ?_ ?_ _ b _ _ (by exact k.2)).trans ((set3_hit _ _ 0 ?_ ?_ _ b _ i _ k ?_ ?_).trans rfl)
  · rw [word_first, word_v8]; rfl
  · rw [word_second, word_v9]; rfl
  · rw [word_first, word_v4]; rfl
  · rw [word_second, word_v5]; rfl
  · change (i : ℕ) = (b * 32 + i) % 32
    omega
  · exact Nat.zero_add _

/-- The padded nodes: the last two columns hold the old means. -/
theorem node_mean (b : Fin 1024) (i : Fin 30) (k : Fin 2) :
    (V7 m ρ c main_v12 : S32768x4.Idx → EReal) (ix2 ⟨b * 32 + i, by omega⟩ ⟨2 + k, by omega⟩)
      = (m (c.tc.loc main_arg1) : S30720x2.Idx → EReal) (ix2 ⟨b * 30 + i, by omega⟩ k) := by
  rw [show V7 m ρ c main_v12 = W7 m ρ c (Proc.devRef .tc main_v12) from rfl, W7_of _ _ _ _ (by decide), W6_of _ _ _ _ (by decide),
    W5_of _ _ _ _ (by decide), W4_of _ _ _ _ (by decide), W3_of _ _ _ _ (by decide), W2_of _ _ _ _ (by decide)]
  unfold W1
  after_reads_at
  refine (set3_hit _ _ 2 ?_ ?_ _ b _ i _ k ?_ rfl).trans rfl
  · rw [word_first, word_v8]; rfl
  · rw [word_second, word_v9]; rfl
  · change (i : ℕ) = (b * 32 + i) % 32
    omega

/-- The result's first half: the first two columns of what the second call stores. -/
theorem result_mean (b : Fin 1024) (i : Fin 30) (k : Fin 2) :
    (W11 m ρ c (Proc.devRef .tc main_v72) : S1024x120.Idx → EReal) (ix2 b ⟨i * 2 + k, by omega⟩)
      = (W10 m ρ c (Proc.devRef .tc main_v65) : S32768x4.Idx → EReal) (ix2 ⟨b * 32 + i, by omega⟩ ⟨k, by omega⟩) := by
  unfold W11
  after_reads_at
  rw [dif_pos (by omega)]
  refine congrArg (W10 m ρ c (Proc.devRef .tc main_v65) : S32768x4.Idx → EReal) (congrArg₂ ix2 (Fin.ext ?_) (Fin.ext ?_))
  · change (b : ℕ) * 32 + ((i : ℕ) * 2 + (k : ℕ)) / 2 = (b : ℕ) * 32 + (i : ℕ); omega
  · change ((i : ℕ) * 2 + (k : ℕ)) % 2 = (k : ℕ); omega

/-- The result's second half: the last two columns of what the second call stores. -/
theorem result_deviation (b : Fin 1024) (i : Fin 30) (k : Fin 2) :
    (W11 m ρ c (Proc.devRef .tc main_v72) : S1024x120.Idx → EReal) (ix2 b ⟨60 + (i * 2 + k), by omega⟩)
      = (W10 m ρ c (Proc.devRef .tc main_v65) : S32768x4.Idx → EReal) (ix2 ⟨b * 32 + i, by omega⟩ ⟨2 + k, by omega⟩) := by
  unfold W11
  after_reads_at
  refine congrArg (W10 m ρ c (Proc.devRef .tc main_v65) : S32768x4.Idx → EReal) (congrArg₂ ix2 (Fin.ext ?_) (Fin.ext ?_))
  · change (b : ℕ) * 32 + ((i : ℕ) * 2 + (k : ℕ)) / 2 = (b : ℕ) * 32 + (i : ℕ); omega
  · change 2 + ((i : ℕ) * 2 + (k : ℕ)) % 2 = 2 + (k : ℕ); omega

/-- The masks, reshaped. -/
theorem mask_rows (r : Fin 32768) (j : Fin 32) :
    (V9 m ρ c main_v50 : S32768x32.Idx → EReal) (ix2 r j)
      = (W8 m ρ c (Proc.devRef .tc main_v49) : S8192x128.Idx → EReal) (ix2 ⟨r / 4, by omega⟩ ⟨r % 4 * 32 + j, by omega⟩) := by
  rw [show V9 m ρ c main_v50 = W9 m ρ c (Proc.devRef .tc main_v50) from rfl]
  unfold W9
  after_reads_at

/-- Argument 3 as a row. -/
theorem row_3 (q : Fin 128) :
    (V9 m ρ c main_v58 : S1x128.Idx → EReal) (ix2 0 q) = (m (c.tc.loc main_arg3) : S128.Idx → EReal) (ix1 q) := by
  rw [show V9 m ρ c main_v58 = W9 m ρ c (Proc.devRef .tc main_v58) from rfl, ← W8_args m ρ c main_arg3 (by decide)]
  unfold W9
  after_reads_at

/-- Argument 5 as a row. -/
theorem row_5 (q : Fin 128) :
    (V9 m ρ c main_v59 : S1x128.Idx → EReal) (ix2 0 q) = (m (c.tc.loc main_arg5) : S128.Idx → EReal) (ix1 q) := by
  rw [show V9 m ρ c main_v59 = W9 m ρ c (Proc.devRef .tc main_v59) from rfl, ← W8_args m ρ c main_arg5 (by decide)]
  unfold W9
  after_reads_at

/-- Argument 8 as a row. -/
theorem row_8 (q : Fin 64) :
    (V9 m ρ c main_v60 : S1x64.Idx → EReal) (ix2 0 q) = (m (c.tc.loc main_arg8) : S64.Idx → EReal) (ix1 q) := by
  rw [show V9 m ρ c main_v60 = W9 m ρ c (Proc.devRef .tc main_v60) from rfl, ← W8_args m ρ c main_arg8 (by decide)]
  unfold W9
  after_reads_at

/-- Argument 10 as a row. -/
theorem row_10 (q : Fin 128) :
    (V9 m ρ c main_v61 : S1x128.Idx → EReal) (ix2 0 q) = (m (c.tc.loc main_arg10) : S128.Idx → EReal) (ix1 q) := by
  rw [show V9 m ρ c main_v61 = W9 m ρ c (Proc.devRef .tc main_v61) from rfl, ← W8_args m ρ c main_arg10 (by decide)]
  unfold W9
  after_reads_at

/-- Argument 12 as a row. -/
theorem row_12 (q : Fin 128) :
    (V9 m ρ c main_v62 : S1x128.Idx → EReal) (ix2 0 q) = (m (c.tc.loc main_arg12) : S128.Idx → EReal) (ix1 q) := by
  rw [show V9 m ρ c main_v62 = W9 m ρ c (Proc.devRef .tc main_v62) from rfl, ← W8_args m ρ c main_arg12 (by decide)]
  unfold W9
  after_reads_at

/-- Argument 14 as a row. -/
theorem row_14 (q : Fin 128) :
    (V9 m ρ c main_v63 : S1x128.Idx → EReal) (ix2 0 q) = (m (c.tc.loc main_arg14) : S128.Idx → EReal) (ix1 q) := by
  rw [show V9 m ρ c main_v63 = W9 m ρ c (Proc.devRef .tc main_v63) from rfl, ← W8_args m ρ c main_arg14 (by decide)]
  unfold W9
  after_reads_at

/-- Argument 16 as a row. -/
theorem row_16 (q : Fin 4) :
    (V9 m ρ c main_v64 : S1x4.Idx → EReal) (ix2 0 q) = (m (c.tc.loc main_arg16) : S4.Idx → EReal) (ix1 q) := by
  rw [show V9 m ρ c main_v64 = W9 m ρ c (Proc.devRef .tc main_v64) from rfl, ← W8_args m ρ c main_arg16 (by decide)]
  unfold W9
  after_reads_at

end Cert.Proof.Host
-- ==== Proof.Region.lean ====
/- What each kernel call leaves in its result array: at every index, the block's own term. -/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Proof.Region

open Idealize.ShloMosaic Idealize.ShloMosaic.TcCoe Cert.KernelIdeal Cert.KernelIdeal.Gen

variable (V : (c : Dev nD) → (b : Ref sig .tc) → Buf (Elt Ideal) ((c : Thread nD τ).loc b)) (c : Dev nD)

/-- What the first call stores at grid point `t`. -/
def mask (t : Fin 32) : S256x128.Idx → EReal :=
  out0_6 (iblk0 V c 0 t) (iblk0 V c 1 t) (iblk0 V c 2 t) (iblk0 V c 3 t) (iblk0 V c 4 t) (iblk0 V c 5 t)

/-- What the second call stores at grid point `t`. -/
def actor (t : Fin 32) : S1024x4.Idx → EReal :=
  out1_17 (iblk1 V c 0 t) (iblk1 V c 1 t) (iblk1 V c 2 t) (iblk1 V c 3 t) (iblk1 V c 4 t) (iblk1 V c 5 t) (iblk1 V c 6 t)
    (iblk1 V c 7 t) (iblk1 V c 8 t) (iblk1 V c 9 t) (iblk1 V c 10 t) (iblk1 V c 11 t) (iblk1 V c 12 t) (iblk1 V c 13 t)
    (iblk1 V c 14 t) (iblk1 V c 15 t) (iblk1 V c 16 t)

/-- The first call's result array. -/
theorem masks : (dat0 V c).arrAt 6 cfg0.N
    = fun y : S8192x128.Idx => mask V c ⟨(y 0 : ℕ) / 256, by have := (y 0).isLt; change (y 0 : ℕ) < 8192 at this; omega⟩
        (ix2 ⟨(y 0 : ℕ) % 256, by omega⟩ (y 1)) := by
  have e : ∀ t : Fin cfg0.N, win0_6.index t = ![t.val, 0] := by decide +kernel
  refine (dat0 V c).arrAt_eq_of_covers 6 _ (by decide +kernel) fun t hf y => ?_
  blk_simp
  rw [after0_6]
  have h0 : ((y 0 : Fin _) : ℕ) < 256 := (y 0).isLt
  have e0 : win0_6.index t 0 = t.val := congrFun (e t) 0
  have ht : (⟨(win0_6.index t 0 * 256 + (y 0 : ℕ)) / 256, by have := t.isLt; change t.val < 32 at this; rw [e0]; omega⟩ : Fin 32) = t :=
    Fin.ext (by change (win0_6.index t 0 * 256 + (y 0 : ℕ)) / 256 = t.val; rw [e0]; omega)
  refine Eq.trans ?_ (congrArg (fun t' => mask V c t' (ix2 ⟨(win0_6.index t 0 * 256 + (y 0 : ℕ)) % 256, by omega⟩
    (((cfg0.win 6).blk t).view.emb y 1))) ht.symm)
  refine congrArg (mask V c t) (funext fun a => ?_)
  match a with
  | ⟨0, _⟩ =>
    refine Fin.ext ?_
    change (y 0 : ℕ) = (win0_6.index t 0 * 256 + (y 0 : ℕ)) % 256
    rw [e0]; omega
  | ⟨1, _⟩ =>
    refine Fin.ext ?_
    change (y 1 : ℕ) = (((cfg0.win 6).blk t).view.emb y 1 : ℕ)
    blk_simp [e t]

/-- The second call's result array. -/
theorem actors : (dat1 V c).arrAt 17 cfg1.N
    = fun y : S32768x4.Idx => actor V c ⟨(y 0 : ℕ) / 1024, by have := (y 0).isLt; change (y 0 : ℕ) < 32768 at this; omega⟩
        (ix2 ⟨(y 0 : ℕ) % 1024, by omega⟩ (y 1)) := by
  have e : ∀ t : Fin cfg1.N, win1_17.index t = ![t.val, 0] := by decide +kernel
  refine (dat1 V c).arrAt_eq_of_covers 17 _ (by decide +kernel) fun t hf y => ?_
  blk_simp
  rw [after1_17]
  have h0 : ((y 0 : Fin _) : ℕ) < 1024 := (y 0).isLt
  have e0 : win1_17.index t 0 = t.val := congrFun (e t) 0
  have ht : (⟨(win1_17.index t 0 * 1024 + (y 0 : ℕ)) / 1024, by have := t.isLt; change t.val < 32 at this; rw [e0]; omega⟩ : Fin 32) = t :=
    Fin.ext (by change (win1_17.index t 0 * 1024 + (y 0 : ℕ)) / 1024 = t.val; rw [e0]; omega)
  refine Eq.trans ?_ (congrArg (fun t' => actor V c t' (ix2 ⟨(win1_17.index t 0 * 1024 + (y 0 : ℕ)) % 1024, by omega⟩
    (((cfg1.win 17).blk t).view.emb y 1))) ht.symm)
  refine congrArg (actor V c t) (funext fun a => ?_)
  match a with
  | ⟨0, _⟩ =>
    refine Fin.ext ?_
    change (y 0 : ℕ) = (win1_17.index t 0 * 1024 + (y 0 : ℕ)) % 1024
    rw [e0]; omega
  | ⟨1, _⟩ =>
    refine Fin.ext ?_
    change (y 1 : ℕ) = (((cfg1.win 17).blk t).view.emb y 1 : ℕ)
    blk_simp [e t]

/-- A block of the padded first coordinates. -/
theorem block0_0 (t : Fin 32) (g i : Fin 32) : iblk0 V c 0 t (ix2 g i) = (V c main_v17 : S1024x32.Idx → EReal) (ix2 ⟨t * 32 + g, by omega⟩ i) := by
  have e : ∀ t : Fin cfg0.N, win0_0.index t = ![t.val, 0] := by decide +kernel
  blk_ext [iblk0, e t]

/-- A block of the padded second coordinates. -/
theorem block0_1 (t : Fin 32) (g i : Fin 32) : iblk0 V c 1 t (ix2 g i) = (V c main_v22 : S1024x32.Idx → EReal) (ix2 ⟨t * 32 + g, by omega⟩ i) := by
  have e : ∀ t : Fin cfg0.N, win0_1.index t = ![t.val, 0] := by decide +kernel
  blk_ext [iblk0, e t]

/-- The table of the first selection is one block. -/
theorem block0_2 (t : Fin 32) : (iblk0 V c 2 t : S32x1024.Idx → EReal) = (V c main_v29 : S32x1024.Idx → EReal) := by
  have e : ∀ t : Fin cfg0.N, win0_2.index t = ![0, 0] := by decide +kernel
  funext y
  blk_ext [iblk0, e t]

/-- The table of the second selection is one block. -/
theorem block0_3 (t : Fin 32) : (iblk0 V c 3 t : S32x1024.Idx → EReal) = (V c main_v34 : S32x1024.Idx → EReal) := by
  have e : ∀ t : Fin cfg0.N, win0_3.index t = ![0, 0] := by decide +kernel
  funext y
  blk_ext [iblk0, e t]

/-- The table of the diagonal is one block. -/
theorem block0_4 (t : Fin 32) : (iblk0 V c 4 t : S1x1024.Idx → EReal) = (V c main_v0 : S1x1024.Idx → EReal) := by
  have e : ∀ t : Fin cfg0.N, win0_4.index t = ![0, 0] := by decide +kernel
  funext y
  blk_ext [iblk0, e t]

/-- The table of the rearrangement is one block. -/
theorem block0_5 (t : Fin 32) : (iblk0 V c 5 t : S128x3840.Idx → EReal) = (V c main_v48 : S128x3840.Idx → EReal) := by
  have e : ∀ t : Fin cfg0.N, win0_5.index t = ![0, 0] := by decide +kernel
  funext y
  blk_ext [iblk0, e t]

/-- A block of the inputs of the nodes. -/
theorem block1_0 (t : Fin 32) (r : Fin 1024) (k : Fin 4) :
    iblk1 V c 0 t (ix2 r k) = (V c main_v12 : S32768x4.Idx → EReal) (ix2 ⟨t * 1024 + r, by omega⟩ k) := by
  have e : ∀ t : Fin cfg1.N, win1_0.index t = ![t.val, 0] := by decide +kernel
  blk_ext [iblk1, e t]

/-- A block of the mask. -/
theorem block1_1 (t : Fin 32) (r : Fin 1024) (k : Fin 32) :
    iblk1 V c 1 t (ix2 r k) = (V c main_v50 : S32768x32.Idx → EReal) (ix2 ⟨t * 1024 + r, by omega⟩ k) := by
  have e : ∀ t : Fin cfg1.N, win1_1.index t = ![t.val, 0] := by decide +kernel
  blk_ext [iblk1, e t]

/-- Window 2 of the second call is one block. -/
theorem block1_2 (t : Fin 32) : (iblk1 V c 2 t : S4x128.Idx → EReal) = (V c main_arg2 : S4x128.Idx → EReal) := by
  have e : ∀ t : Fin cfg1.N, win1_2.index t = ![0, 0] := by decide +kernel
  funext y
  blk_ext [iblk1, e t]

/-- Window 3 of the second call is one block. -/
theorem block1_3 (t : Fin 32) : (iblk1 V c 3 t : S1x128.Idx → EReal) = (V c main_v58 : S1x128.Idx → EReal) := by
  have e : ∀ t : Fin cfg1.N, win1_3.index t = ![0, 0] := by decide +kernel
  funext y
  blk_ext [iblk1, e t]

/-- Window 4 of the second call is one block. -/
theorem block1_4 (t : Fin 32) : (iblk1 V c 4 t : S128x128.Idx → EReal) = (V c main_arg4 : S128x128.Idx → EReal) := by
  have e : ∀ t : Fin cfg1.N, win1_4.index t = ![0, 0] := by decide +kernel
  funext y
  blk_ext [iblk1, e t]

/-- Window 5 of the second call is one block. -/
theorem block1_5 (t : Fin 32) : (iblk1 V c 5 t : S1x128.Idx → EReal) = (V c main_v59 : S1x128.Idx → EReal) := by
  have e : ∀ t : Fin cfg1.N, win1_5.index t = ![0, 0] := by decide +kernel
  funext y
  blk_ext [iblk1, e t]

/-- Window 6 of the second call is one block. -/
theorem block1_6 (t : Fin 32) : (iblk1 V c 6 t : S3x64.Idx → EReal) = (V c main_arg6 : S3x64.Idx → EReal) := by
  have e : ∀ t : Fin cfg1.N, win1_6.index t = ![0, 0] := by decide +kernel
  funext y
  blk_ext [iblk1, e t]

/-- Window 7 of the second call is one block. -/
theorem block1_7 (t : Fin 32) : (iblk1 V c 7 t : S64x64.Idx → EReal) = (V c main_arg7 : S64x64.Idx → EReal) := by
  have e : ∀ t : Fin cfg1.N, win1_7.index t = ![0, 0] := by decide +kernel
  funext y
  blk_ext [iblk1, e t]

/-- Window 8 of the second call is one block. -/
theorem block1_8 (t : Fin 32) : (iblk1 V c 8 t : S1x64.Idx → EReal) = (V c main_v60 : S1x64.Idx → EReal) := by
  have e : ∀ t : Fin cfg1.N, win1_8.index t = ![0, 0] := by decide +kernel
  funext y
  blk_ext [iblk1, e t]

/-- Window 9 of the second call is one block. -/
theorem block1_9 (t : Fin 32) : (iblk1 V c 9 t : S384x128.Idx → EReal) = (V c main_arg9 : S384x128.Idx → EReal) := by
  have e : ∀ t : Fin cfg1.N, win1_9.index t = ![0, 0] := by decide +kernel
  funext y
  blk_ext [iblk1, e t]

/-- Window 10 of the second call is one block. -/
theorem block1_10 (t : Fin 32) : (iblk1 V c 10 t : S1x128.Idx → EReal) = (V c main_v61 : S1x128.Idx → EReal) := by
  have e : ∀ t : Fin cfg1.N, win1_10.index t = ![0, 0] := by decide +kernel
  funext y
  blk_ext [iblk1, e t]

/-- Window 11 of the second call is one block. -/
theorem block1_11 (t : Fin 32) : (iblk1 V c 11 t : S128x128.Idx → EReal) = (V c main_arg11 : S128x128.Idx → EReal) := by
  have e : ∀ t : Fin cfg1.N, win1_11.index t = ![0, 0] := by decide +kernel
  funext y
  blk_ext [iblk1, e t]

/-- Window 12 of the second call is one block. -/
theorem block1_12 (t : Fin 32) : (iblk1 V c 12 t : S1x128.Idx → EReal) = (V c main_v62 : S1x128.Idx → EReal) := by
  have e : ∀ t : Fin cfg1.N, win1_12.index t = ![0, 0] := by decide +kernel
  funext y
  blk_ext [iblk1, e t]

/-- Window 13 of the second call is one block. -/
theorem block1_13 (t : Fin 32) : (iblk1 V c 13 t : S128x128.Idx → EReal) = (V c main_arg13 : S128x128.Idx → EReal) := by
  have e : ∀ t : Fin cfg1.N, win1_13.index t = ![0, 0] := by decide +kernel
  funext y
  blk_ext [iblk1, e t]

/-- Window 14 of the second call is one block. -/
theorem block1_14 (t : Fin 32) : (iblk1 V c 14 t : S1x128.Idx → EReal) = (V c main_v63 : S1x128.Idx → EReal) := by
  have e : ∀ t : Fin cfg1.N, win1_14.index t = ![0, 0] := by decide +kernel
  funext y
  blk_ext [iblk1, e t]

/-- Window 15 of the second call is one block. -/
theorem block1_15 (t : Fin 32) : (iblk1 V c 15 t : S128x4.Idx → EReal) = (V c main_arg15 : S128x4.Idx → EReal) := by
  have e : ∀ t : Fin cfg1.N, win1_15.index t = ![0, 0] := by decide +kernel
  funext y
  blk_ext [iblk1, e t]

/-- Window 16 of the second call is one block. -/
theorem block1_16 (t : Fin 32) : (iblk1 V c 16 t : S1x4.Idx → EReal) = (V c main_v64 : S1x4.Idx → EReal) := by
  have e : ∀ t : Fin cfg1.N, win1_16.index t = ![0, 0] := by decide +kernel
  funext y
  blk_ext [iblk1, e t]

end Cert.Proof.Region

end
-- ==== Proof.KernelValue.lean ====
/- The kernel's result, element by element, from the arguments. -/
module

public import proofs.«01_k».proof.Proof.Model
public import proofs.«01_k».proof.Proof.FusedOut
public import proofs.«01_k».proof.Proof.Host
public import proofs.«01_k».proof.Proof.Region

@[expose] public section

set_option maxRecDepth 16384

noncomputable section

namespace Cert.Proof.KernelValue

open Idealize.ShloMosaic Cert.KernelIdeal Cert.KernelIdeal.Gen Cert.Proof.Edge Cert.Proof.Model

/-- The arguments of the network. -/
def weights (a2 : S4x128.Idx → EReal) (a3 : S128.Idx → EReal) (a4 : S128x128.Idx → EReal) (a5 : S128.Idx → EReal) (a6 : S3x64.Idx → EReal)
    (a7 : S64x64.Idx → EReal) (a8 : S64.Idx → EReal) (a9 : S384x128.Idx → EReal) (a10 : S128.Idx → EReal) (a11 : S128x128.Idx → EReal)
    (a12 : S128.Idx → EReal) (a13 : S128x128.Idx → EReal) (a14 : S128.Idx → EReal) (a15 : S128x4.Idx → EReal) (a16 : S4.Idx → EReal) : Net where
  W1a k q := a2 (ix2 k q)
  b1a q := a3 (ix1 q)
  W1b k q := a4 (ix2 k q)
  b1b q := a5 (ix1 q)
  emb k q := a6 (ix2 k q)
  Wc k q := a7 (ix2 k q)
  bc q := a8 (ix1 q)
  Wm1 k q := a9 (ix2 k q)
  bm1 q := a10 (ix1 q)
  Wm2 k q := a11 (ix2 k q)
  bm2 q := a12 (ix1 q)
  Ws1 k q := a13 (ix2 k q)
  bs1 q := a14 (ix1 q)
  Ws2 k q := a15 (ix2 k q)
  bs2 q := a16 (ix1 q)

variable (m : (a : Loc nD τ sig) → Buf (Elt Ideal) a) (ρ : Dev nD → PrngReg) (c : Dev nD)

/-- The elements of the arguments. -/
def args : Inputs where
  place b k := (m (c.tc.loc main_arg0) : S1024x60.Idx → EReal) (ix2 b k)
  target n k := (m (c.tc.loc main_arg1) : S30720x2.Idx → EReal) (ix2 n k)
  net := weights (m (c.tc.loc main_arg2)) (m (c.tc.loc main_arg3)) (m (c.tc.loc main_arg4)) (m (c.tc.loc main_arg5)) (m (c.tc.loc main_arg6))
    (m (c.tc.loc main_arg7)) (m (c.tc.loc main_arg8)) (m (c.tc.loc main_arg9)) (m (c.tc.loc main_arg10)) (m (c.tc.loc main_arg11))
    (m (c.tc.loc main_arg12)) (m (c.tc.loc main_arg13)) (m (c.tc.loc main_arg14)) (m (c.tc.loc main_arg15)) (m (c.tc.loc main_arg16))

/-- The mask's entries: nought for the ten nearest nodes, minus infinity for the others. -/
theorem mask (hfin : ∀ b k, ∃ r : ℝ, (args m c).place b k = r) (t g : Fin 32) (b : Fin 1024) (hb : (b : ℕ) = t * 32 + g)
    (i j : Fin 30) :
    (V9 m ρ c main_v50 : S32768x32.Idx → EReal) (ix2 ⟨b * 32 + i, by omega⟩ ⟨j, by omega⟩)
      = if (Mask.before ((args m c).dist b i) j).card < 10 then (0 : EReal) else ⊥ := by
  have hpad : ∃ r : ℝ, Ideal.ofBits .f32 0x58635FA9#32 = r := ⟨_, by simp [Ideal.ofBits, Ideal.ieee]; rfl⟩
  have h0 : ∀ (t g i : Fin 32), ∃ r : ℝ, (iblk0 (V7 m ρ) c 0 t (ix2 g i) : EReal) = (r : EReal) := fun t g i => by
    rw [Region.block0_0, Host.first]
    split
    · exact hfin _ _
    · exact hpad
  have h1 : ∀ (t g i : Fin 32), ∃ r : ℝ, (iblk0 (V7 m ρ) c 1 t (ix2 g i) : EReal) = (r : EReal) := fun t g i => by
    rw [Region.block0_1, Host.second]
    split
    · exact hfin _ _
    · exact hpad
  have T : ∀ t : Fin 32, Mask.Tables (iblk0 (V7 m ρ) c 2 t) (iblk0 (V7 m ρ) c 3 t) (iblk0 (V7 m ρ) c 4 t) (iblk0 (V7 m ρ) c 5 t) := fun t => by
    rw [Region.block0_2, Region.block0_3, Region.block0_4, Region.block0_5]
    exact ⟨Host.table_i m ρ c, Host.table_j m ρ c, Host.table_diagonal m ρ c, Host.table_place m ρ c⟩
  have o := Mask.out (T t) (h0 t) (h1 t) g ⟨i, by omega⟩ j
  have hd : (fun k : Fin 30 => Mask.dist (iblk0 (V7 m ρ) c 0 t) (iblk0 (V7 m ρ) c 1 t) g ⟨i, by omega⟩ ⟨k, by omega⟩)
      = (args m c).dist b i := by
    funext k
    have hb' : ∀ h, (⟨(t : ℕ) * 32 + g, h⟩ : Fin 1024) = b := fun h => Fin.ext hb.symm
    have p0 : ∀ k : Fin 30, (iblk0 (V7 m ρ) c 0 t (ix2 (g : Fin 32) (⟨k, by omega⟩ : Fin 32)) : EReal)
        = (args m c).place b ⟨k * 2, by omega⟩ := fun k => by
      rw [Region.block0_0, Host.first, dif_pos k.isLt, hb']
      rfl
    have p1 : ∀ k : Fin 30, (iblk0 (V7 m ρ) c 1 t (ix2 (g : Fin 32) (⟨k, by omega⟩ : Fin 32)) : EReal)
        = (args m c).place b ⟨k * 2 + 1, by omega⟩ := fun k => by
      rw [Region.block0_1, Host.second, dif_pos k.isLt, hb']
      rfl
    unfold Mask.dist Inputs.dist
    rw [p0, p0, p1, p1]
    refine congrArg _ (if_congr ?_ rfl rfl)
    simp only [Fin.mk.injEq, Fin.val_inj]
  have o' := o.trans (congrArg (fun D => if (Mask.before D j).card < 10 then (0 : EReal) else ⊥) hd)
  rw [Host.mask_rows, W8_arr m ρ c 6, Region.masks]
  refine Eq.trans ?_ o'
  unfold Region.mask
  have e : ∀ (t t' : Fin 32) (y y' : S256x128.Idx), t = t' → y = y' → Region.mask (V7 m ρ) c t y = Region.mask (V7 m ρ) c t' y' := by
    rintro t t' y y' rfl rfl; rfl
  refine e _ _ _ _ (Fin.ext ?_) (congrArg₂ ix2 (Fin.ext ?_) (Fin.ext ?_))
  · change ((b : ℕ) * 32 + i) / 4 / 256 = t; omega
  · change ((b : ℕ) * 32 + i) / 4 % 256 = g * 8 + i / 4; omega
  · change ((b : ℕ) * 32 + i) % 4 * 32 + j = i % 4 * 32 + j; omega

/-- The weights read from the blocks and from the arguments. -/
theorem weights_congr {x2 : S4x128.Idx → EReal} {a2 : S4x128.Idx → EReal}
    {x3 : S1x128.Idx → EReal} {a3 : S128.Idx → EReal}
    {x4 : S128x128.Idx → EReal} {a4 : S128x128.Idx → EReal}
    {x5 : S1x128.Idx → EReal} {a5 : S128.Idx → EReal}
    {x6 : S3x64.Idx → EReal} {a6 : S3x64.Idx → EReal}
    {x7 : S64x64.Idx → EReal} {a7 : S64x64.Idx → EReal}
    {x8 : S1x64.Idx → EReal} {a8 : S64.Idx → EReal}
    {x9 : S384x128.Idx → EReal} {a9 : S384x128.Idx → EReal}
    {x10 : S1x128.Idx → EReal} {a10 : S128.Idx → EReal}
    {x11 : S128x128.Idx → EReal} {a11 : S128x128.Idx → EReal}
    {x12 : S1x128.Idx → EReal} {a12 : S128.Idx → EReal}
    {x13 : S128x128.Idx → EReal} {a13 : S128x128.Idx → EReal}
    {x14 : S1x128.Idx → EReal} {a14 : S128.Idx → EReal}
    {x15 : S128x4.Idx → EReal} {a15 : S128x4.Idx → EReal}
    {x16 : S1x4.Idx → EReal} {a16 : S4.Idx → EReal}
    (h2 : x2 = a2)
    (h3 : ∀ q, x3 (ix2 0 q) = a3 (ix1 q))
    (h4 : x4 = a4)
    (h5 : ∀ q, x5 (ix2 0 q) = a5 (ix1 q))
    (h6 : x6 = a6)
    (h7 : x7 = a7)
    (h8 : ∀ q, x8 (ix2 0 q) = a8 (ix1 q))
    (h9 : x9 = a9)
    (h10 : ∀ q, x10 (ix2 0 q) = a10 (ix1 q))
    (h11 : x11 = a11)
    (h12 : ∀ q, x12 (ix2 0 q) = a12 (ix1 q))
    (h13 : x13 = a13)
    (h14 : ∀ q, x14 (ix2 0 q) = a14 (ix1 q))
    (h15 : x15 = a15)
    (h16 : ∀ q, x16 (ix2 0 q) = a16 (ix1 q)) :
    Fused.net x2 x3 x4 x5 x6 x7 x8 x9 x10 x11 x12 x13 x14 x15 x16 = weights a2 a3 a4 a5 a6 a7 a8 a9 a10 a11 a12 a13 a14 a15 a16 := by
  subst h2 h4 h6 h7 h9 h11 h13 h15
  unfold Fused.net weights
  simp only [h3, h5, h8, h10, h12, h14, h16]

/-- The blocks of the weights are the weights. -/
theorem net_eq (t : Fin 32) : Fused.net (iblk1 (V9 m ρ) c 2 t) (iblk1 (V9 m ρ) c 3 t) (iblk1 (V9 m ρ) c 4 t) (iblk1 (V9 m ρ) c 5 t) (iblk1 (V9 m ρ) c 6 t) (iblk1 (V9 m ρ) c 7 t) (iblk1 (V9 m ρ) c 8 t) (iblk1 (V9 m ρ) c 9 t) (iblk1 (V9 m ρ) c 10 t) (iblk1 (V9 m ρ) c 11 t) (iblk1 (V9 m ρ) c 12 t) (iblk1 (V9 m ρ) c 13 t) (iblk1 (V9 m ρ) c 14 t) (iblk1 (V9 m ρ) c 15 t) (iblk1 (V9 m ρ) c 16 t) = (args m c).net :=
  weights_congr
    ((Region.block1_2 (V9 m ρ) c t).trans (W9_args m ρ c main_arg2 (by decide)))
    (fun q => (congrFun (Region.block1_3 (V9 m ρ) c t) (ix2 0 q)).trans (Host.row_3 m ρ c q))
    ((Region.block1_4 (V9 m ρ) c t).trans (W9_args m ρ c main_arg4 (by decide)))
    (fun q => (congrFun (Region.block1_5 (V9 m ρ) c t) (ix2 0 q)).trans (Host.row_5 m ρ c q))
    ((Region.block1_6 (V9 m ρ) c t).trans (W9_args m ρ c main_arg6 (by decide)))
    ((Region.block1_7 (V9 m ρ) c t).trans (W9_args m ρ c main_arg7 (by decide)))
    (fun q => (congrFun (Region.block1_8 (V9 m ρ) c t) (ix2 0 q)).trans (Host.row_8 m ρ c q))
    ((Region.block1_9 (V9 m ρ) c t).trans (W9_args m ρ c main_arg9 (by decide)))
    (fun q => (congrFun (Region.block1_10 (V9 m ρ) c t) (ix2 0 q)).trans (Host.row_10 m ρ c q))
    ((Region.block1_11 (V9 m ρ) c t).trans (W9_args m ρ c main_arg11 (by decide)))
    (fun q => (congrFun (Region.block1_12 (V9 m ρ) c t) (ix2 0 q)).trans (Host.row_12 m ρ c q))
    ((Region.block1_13 (V9 m ρ) c t).trans (W9_args m ρ c main_arg13 (by decide)))
    (fun q => (congrFun (Region.block1_14 (V9 m ρ) c t) (ix2 0 q)).trans (Host.row_14 m ρ c q))
    ((Region.block1_15 (V9 m ρ) c t).trans (W9_args m ρ c main_arg15 (by decide)))
    (fun q => (congrFun (Region.block1_16 (V9 m ρ) c t) (ix2 0 q)).trans (Host.row_16 m ρ c q))

/-- The block of the nodes' inputs. -/
theorem inputs_eq (t g : Fin 32) (i : Fin 30) (b : Fin 1024) (hb : (b : ℕ) = t * 32 + g) :
    Fused.inputs (iblk1 (V9 m ρ) c 0 t) ⟨(g : ℕ) * 32 + i, by omega⟩ = (args m c).node b i := by
  funext k
  unfold Fused.inputs Inputs.node
  rw [Region.block1_0, show V9 m ρ c main_v12 = V7 m ρ c main_v12 from
    (W9_of m ρ c main_v12 (by decide)).trans (W8_of_ne m ρ c main_v12 (by decide))]
  have hr : ∀ h : (t : ℕ) * 1024 + (g * 32 + i) < 32768, (⟨(t : ℕ) * 1024 + (g * 32 + i), h⟩ : Fin 32768) = ⟨b * 32 + i, by omega⟩ := fun h =>
    Fin.ext (by change (t : ℕ) * 1024 + (g * 32 + i) = b * 32 + i; omega)
  rw [hr]
  split
  next h => exact Host.node_position m ρ c b i ⟨k, h⟩
  next h =>
    refine congrArg Ideal.tanh (Eq.trans ?_ (Host.node_mean m ρ c b i ⟨k - 2, by omega⟩))
    exact congrArg (fun q => (V7 m ρ c main_v12 : S32768x4.Idx → EReal) (ix2 ⟨b * 32 + i, by omega⟩ q)) (Fin.ext (by
      change (k : ℕ) = 2 + (k - 2); omega))

/-- The maximum over the sending nodes. -/
theorem aggregate_eq (hfin : ∀ b k, ∃ r : ℝ, (args m c).place b k = r) (t g : Fin 32) (i : Fin 30) (b : Fin 1024) (hb : (b : ℕ) = t * 32 + g) (h : Fin 128) :
    Fused.aggregate (iblk1 (V9 m ρ) c 0 t) (iblk1 (V9 m ρ) c 1 t) (iblk1 (V9 m ρ) c 2 t) (iblk1 (V9 m ρ) c 3 t) (iblk1 (V9 m ρ) c 4 t) (iblk1 (V9 m ρ) c 5 t) (iblk1 (V9 m ρ) c 6 t) (iblk1 (V9 m ρ) c 7 t) (iblk1 (V9 m ρ) c 8 t) (iblk1 (V9 m ρ) c 9 t) (iblk1 (V9 m ρ) c 10 t) (iblk1 (V9 m ρ) c 11 t) (iblk1 (V9 m ρ) c 12 t) (iblk1 (V9 m ρ) c 13 t) (iblk1 (V9 m ρ) c 14 t) (iblk1 (V9 m ρ) c 15 t) (iblk1 (V9 m ρ) c 16 t) g i h = (args m c).pooled b i h := by
  unfold Fused.aggregate Inputs.pooled Inputs.edge Inputs.feature Inputs.category
  rw [net_eq]
  refine Finset.sup_congr rfl fun j _ => ?_
  rw [inputs_eq m ρ c t g i b hb, inputs_eq m ρ c t g j b hb]
  refine congrArg _ ?_
  rw [← mask m ρ c hfin t g b hb i j, Region.block1_1]
  exact congrArg (V9 m ρ c main_v50 : S32768x32.Idx → EReal) (congrArg₂ ix2 (Fin.ext (by
    change (t : ℕ) * 1024 + (g * 32 + i) = b * 32 + i; omega)) rfl)

/-- An element of the result's array after the second call is the block's. -/
theorem result_block (t g : Fin 32) (i : Fin 30) (b : Fin 1024) (hb : (b : ℕ) = t * 32 + g) (k : Fin 4) :
    (W10 m ρ c (Proc.devRef .tc main_v65) : S32768x4.Idx → EReal) (ix2 ⟨b * 32 + i, by omega⟩ k)
      = Region.actor (V9 m ρ) c t (ix2 ⟨g * 32 + i, by omega⟩ k) := by
  rw [W10_arr m ρ c 17, Region.actors]
  have e : ∀ (t t' : Fin 32) (y y' : S1024x4.Idx), t = t' → y = y' → Region.actor (V9 m ρ) c t y = Region.actor (V9 m ρ) c t' y' := by
    rintro t t' y y' rfl rfl; rfl
  refine e _ _ _ _ (Fin.ext ?_) (congrArg₂ ix2 (Fin.ext ?_) rfl)
  · change ((b : ℕ) * 32 + i) / 1024 = t; omega
  · change ((b : ℕ) * 32 + i) % 1024 = g * 32 + i; omega

/-- The first half of the result: the means. -/
theorem mean (hfin : ∀ b k, ∃ r : ℝ, (args m c).place b k = r) (b : Fin 1024) (i : Fin 30) (k : Fin 2) :
    (W11 m ρ c (Proc.devRef .tc main_v72) : S1024x120.Idx → EReal) (ix2 b ⟨i * 2 + k, by omega⟩) = (args m c).mean b i k := by
  obtain ⟨t, g, hb⟩ : ∃ t g : Fin 32, (b : ℕ) = t * 32 + g :=
    ⟨⟨b / 32, by omega⟩, ⟨b % 32, by omega⟩, (Nat.div_add_mod' _ _).symm⟩
  rw [Host.result_mean, result_block m ρ c t g i b hb]
  unfold Region.actor Inputs.mean Inputs.score
  rw [Fused.out_mean, net_eq]
  have hi := congrFun (inputs_eq m ρ c t g i b hb) ⟨2 + k, by omega⟩
  unfold Fused.inputs Inputs.node at hi
  have hk : ¬ 2 + (k : ℕ) < 2 := by omega
  rw [if_neg hk, dif_neg hk] at hi
  refine congrArg₂ (· + ·) (congrArg Ideal.tanh (congrArg (fun a => (args m c).net.actor a _) (funext fun h =>
    congrArg₂ (· + ·) (aggregate_eq m ρ c hfin t g i b hb h) (congrFun (congrArg Net.bm2 (net_eq m ρ c t)) h)))) (hi.trans ?_)
  exact congrArg (fun q => Ideal.tanh ((args m c).target ⟨b * 30 + i, by omega⟩ q)) (Fin.ext (Nat.add_sub_cancel_left ..))

/-- The second half of the result: the standard deviations. -/
theorem spread (hfin : ∀ b k, ∃ r : ℝ, (args m c).place b k = r) (b : Fin 1024) (i : Fin 30) (k : Fin 2) :
    (W11 m ρ c (Proc.devRef .tc main_v72) : S1024x120.Idx → EReal) (ix2 b ⟨60 + (i * 2 + k), by omega⟩) = (args m c).spread b i k := by
  obtain ⟨t, g, hb⟩ : ∃ t g : Fin 32, (b : ℕ) = t * 32 + g :=
    ⟨⟨b / 32, by omega⟩, ⟨b % 32, by omega⟩, (Nat.div_add_mod' _ _).symm⟩
  rw [Host.result_deviation, result_block m ρ c t g i b hb]
  unfold Region.actor Inputs.spread Inputs.score
  rw [Fused.out_deviation, net_eq]
  exact congrArg deviation (congrArg (fun a => (args m c).net.actor a _) (funext fun h =>
    congrArg₂ (· + ·) (aggregate_eq m ρ c hfin t g i b hb h) (congrFun (congrArg Net.bm2 (net_eq m ρ c t)) h)))

end Cert.Proof.KernelValue

end
-- ==== Proof.Order.lean ====
/- The stable sort by the distances puts a node at the position that counts the nodes before it. -/
module

public import proofs.«01_k».proof.Proof.Mask
public import Idealize.ShloMosaic.Lib.SortFacts

@[expose] public section

noncomputable section

namespace Cert.Proof.Order

open Idealize.ShloMosaic

variable {n : ℕ} (D : Fin n → EReal)

/-- The order by the distances, ties going to the earlier node. -/
def Precedes (k j : Fin n) : Prop := D k < D j ∨ D k = D j ∧ k < j

/-- The nodes that precede node `j`. -/
def precede (j : Fin n) : Finset (Fin n) := Finset.univ.filter fun k => D k < D j ∨ D k = D j ∧ k < j

/-- The order is transitive. -/
theorem Precedes.trans {a b c : Fin n} (h : Precedes D a b) (h' : Precedes D b c) : Precedes D a c := by
  rcases h with h | ⟨e, h⟩ <;> rcases h' with h' | ⟨e', h'⟩
  · exact Or.inl (h.trans h')
  · exact Or.inl (e' ▸ h)
  · exact Or.inl (e ▸ h')
  · exact Or.inr ⟨e.trans e', h.trans h'⟩

/-- No node precedes itself. -/
theorem Precedes.irrefl (a : Fin n) : ¬ Precedes D a a := by
  rintro (h | ⟨_, h⟩)
  · exact lt_irrefl _ h
  · exact lt_irrefl _ h

/-- Putting a node into an ordered list of later nodes keeps it ordered. -/
theorem ordered_insert (B : Fin n → Fin n → Bool) (hB : ∀ k j, B k j = true ↔ D k < D j) (a : Fin n) :
    ∀ l : List (Fin n), l.Pairwise (Precedes D) → (∀ x ∈ l, a < x) → (insertBefore B a l).Pairwise (Precedes D)
  | [], _, _ => by simp [insertBefore]
  | b :: l, h, ha => by
    have hl := List.pairwise_cons.1 h
    unfold insertBefore
    split
    next hb =>
      refine List.pairwise_cons.2 ⟨fun x hx => ?_, ordered_insert B hB a l hl.2 fun x hx => ha x (List.mem_cons_of_mem _ hx)⟩
      rcases List.mem_cons.1 ((perm_insertBefore B a l).mem_iff.1 hx) with rfl | hx
      · exact Or.inl ((hB _ _).1 hb)
      · exact hl.1 x hx
    next hb =>
      have hab : Precedes D a b := by
        rcases lt_or_eq_of_le (not_lt.1 fun h => hb ((hB _ _).2 h)) with h | h
        · exact Or.inl h
        · exact Or.inr ⟨h, ha b List.mem_cons_self⟩
      refine List.pairwise_cons.2 ⟨fun x hx => ?_, h⟩
      rcases List.mem_cons.1 hx with rfl | hx
      · exact hab
      · exact hab.trans D (hl.1 x hx)

/-- The stable sort of an ascending list is ordered. -/
theorem ordered_sort (B : Fin n → Fin n → Bool) (hB : ∀ k j, B k j = true ↔ D k < D j) :
    ∀ l : List (Fin n), l.Pairwise (· < ·) → (stableSort B l).Pairwise (Precedes D)
  | [], _ => by simp [stableSort]
  | a :: l, h => by
    have hl := List.pairwise_cons.1 h
    exact ordered_insert D B hB a _ (ordered_sort B hB l hl.2) fun x hx => hl.1 x ((perm_stableSort B l).mem_iff.1 hx)

/-- As many nodes are before the node at position `r` as there are positions before `r`. -/
theorem card_before (B : Fin n → Fin n → Bool) (hB : ∀ k j, B k j = true ↔ D k < D j) (r : Fin n) :
    (precede D (sortedFrom B r)).card = r := by
  have ho : ∀ q r : Fin n, q < r → Precedes D (sortedFrom B q) (sortedFrom B r) := fun q r h =>
    List.pairwise_iff_get.1 (ordered_sort D B hB _ (List.pairwise_lt_finRange n)) _ _ h
  have e : precede D (sortedFrom B r) = (Finset.Iio r).image (sortedFrom B) := by
    ext k
    obtain ⟨q, rfl⟩ := sortedFrom_surjective B k
    simp only [precede, Finset.mem_filter, Finset.mem_univ, true_and, Finset.mem_image, Finset.mem_Iio,
      (sortedFrom_injective B).eq_iff, exists_eq_right]
    refine ⟨fun h => ?_, ho q r⟩
    by_contra hq
    rcases lt_or_eq_of_le (not_lt.1 hq) with h' | rfl
    · exact Precedes.irrefl D _ (Precedes.trans D h (ho r q h'))
    · exact Precedes.irrefl D _ h
  rw [e, Finset.card_image_of_injective _ (sortedFrom_injective B), Fin.card_Iio]

/-- The maximum over the first `w` nodes in the order, by the count of the nodes before each and by the sort. -/
theorem sup_first {w : ℕ} (hw : w ≤ n) (B : Fin n → Fin n → Bool) (hB : ∀ k j, B k j = true ↔ D k < D j) (f : Fin n → EReal) :
    ((Finset.univ : Finset (Fin n)).sup fun j => f j + if (precede D j).card < w then 0 else ⊥)
      = (Finset.univ : Finset (Fin w)).sup fun r => f (sortedFrom B (r.castLE hw)) := by
  refine le_antisymm (Finset.sup_le fun j _ => ?_) (Finset.sup_le fun r _ => ?_)
  · obtain ⟨q, rfl⟩ := sortedFrom_surjective B j
    rw [card_before D B hB]
    split
    next h =>
      rw [add_zero]
      exact Finset.le_sup (f := fun r : Fin w => f (sortedFrom B (r.castLE hw))) (Finset.mem_univ (⟨q, h⟩ : Fin w))
    next => rw [EReal.add_bot]; exact bot_le
  · refine le_trans (le_of_eq ?_) (Finset.le_sup (Finset.mem_univ (sortedFrom B (r.castLE hw))))
    rw [card_before D B hB, if_pos (by exact r.isLt), add_zero]

/-- The maximum over the ten nearest nodes, by the count of the nodes before each and by the sort's first ten. -/
theorem sup_nearest (D : Fin 30 → EReal) (B : Fin 30 → Fin 30 → Bool) (hB : ∀ k j, B k j = true ↔ D k < D j) (f : Fin 30 → EReal) :
    ((Finset.univ : Finset (Fin 30)).sup fun j => f j + if (Mask.before D j).card < 10 then 0 else ⊥)
      = (Finset.univ : Finset (Fin 10)).sup fun r => f (sortedFrom B (r.castLE (by decide))) :=
  sup_first D (by decide) B hB f

end Cert.Proof.Order

end
-- ==== Proof.Stages.lean ====
/- The reference's value in stages, each a vector of the stage before it. -/
module

public import proofs.«01_k».proof.Proof.Gen.ReferenceIdeal.Run
public import Idealize.ShloMosaic.Lib.Pointwise

@[expose] public section

set_option maxRecDepth 16384

noncomputable section

namespace Cert.Proof.Stages

open Idealize.ShloMosaic Idealize.ShloMosaic.TcCoe Cert.ReferenceIdeal Cert.ReferenceIdeal.Gen

/-- Minus the squared distances between the nodes of a sample, the diagonal pushed away. -/
def negDist (a0 : FVec Ideal S1024x60 .f32) : FVec Ideal S1024x30x30 .f32 :=
  Host.negf (addf (Host.reduceAdd (mulf (subf (broadcastInDim S1024x30x30x2 ![0, 1, 2, 3]
    bcast_S1024x30x1x2_S1024x30x30x2_0_1_2_3 (broadcastInDim S1024x30x1x2 ![0, 1, 3] bcast_S1024x30x2_S1024x30x1x2_0_1_3
    (shapeCast _ (shapeCast _ a0 shapeCasts_S1024x60_S30720x2) shapeCasts_S30720x2_S1024x30x2))) (broadcastInDim
    S1024x30x30x2 ![0, 1, 2, 3] bcast_S1024x1x30x2_S1024x30x30x2_0_1_2_3 (broadcastInDim S1024x1x30x2 ![0, 2, 3]
    bcast_S1024x30x2_S1024x1x30x2_0_2_3 (shapeCast _ (shapeCast _ a0 shapeCasts_S1024x60_S30720x2)
    shapeCasts_S30720x2_S1024x30x2)))) (subf (broadcastInDim S1024x30x30x2 ![0, 1, 2, 3]
    bcast_S1024x30x1x2_S1024x30x30x2_0_1_2_3 (broadcastInDim S1024x30x1x2 ![0, 1, 3] bcast_S1024x30x2_S1024x30x1x2_0_1_3
    (shapeCast _ (shapeCast _ a0 shapeCasts_S1024x60_S30720x2) shapeCasts_S30720x2_S1024x30x2))) (broadcastInDim
    S1024x30x30x2 ![0, 1, 2, 3] bcast_S1024x1x30x2_S1024x30x30x2_0_1_2_3 (broadcastInDim S1024x1x30x2 ![0, 2, 3]
    bcast_S1024x30x2_S1024x1x30x2_0_2_3 (shapeCast _ (shapeCast _ a0 shapeCasts_S1024x60_S30720x2)
    shapeCasts_S30720x2_S1024x30x2))))) (constant S_ .f32 0x00000000#32) reducesTo_S1024x30x30x2_S1024x30x30_d3 h_S_)
    (broadcastInDim S1024x30x30 ![0, 1, 2] bcast_S1x30x30_S1024x30x30_0_1_2 (broadcastInDim S1x30x30 ![1, 2]
    bcast_S30x30_S1x30x30_1_2 (mulf (uitofp .f32 (cmpi .eq (addi (iotaInDim S30x30 32 0) (broadcastInDim S30x30 ![]
    bcast_S_S30x30 (constantI S_ 32 0#32))) (iotaInDim S30x30 32 1))) (broadcastInDim S30x30 ![] bcast_S_S30x30 (constant S_
    .f32 0x501502F9#32))))))

/-- The nodes picked by the greatest entries of `v` in each row, numbered over all samples. -/
def picks (v : FVec Ideal S1024x30x30 .f32) : IVec S307200 32 :=
  shapeCast _ (addi ((Host.topK S1024x30x10 2 (FloatOps.cmpfTotal .gt) v sliceFits_S1024x30x30_S1024x30x10).2)
    (broadcastInDim S1024x30x10 ![0, 1, 2] bcast_S1024x1x1_S1024x30x10_0_1_2 (broadcastInDim S1024x1x1 ![0]
    bcast_S1024_S1024x1x1_0 (muli (iotaInDim S1024 32 0) (broadcastInDim S1024 ![] bcast_S_S1024 (constantI S_ 32
    30#32)))))) shapeCasts_S1024x30x10_S307200

/-- The node each edge belongs to. -/
def owners : IVec S307200 32 :=
  shapeCast _ (broadcastInDim S1024x30x10 ![0, 1, 2] bcast_S1024x30x1_S1024x30x10_0_1_2 (broadcastInDim S1024x30x1 ![0, 1]
    bcast_S1024x30_S1024x30x1_0_1 (shapeCast _ (iotaInDim S30720 32 0) shapeCasts_S30720_S1024x30)))
    shapeCasts_S1024x30x10_S307200

/-- The nodes' categories. -/
def cats : IVec S30720 32 :=
  shapeCast _ (broadcastInDim S1024x30 ![0, 1] bcast_S1x30_S1024x30_0_1 (shapeCast _ ((concatenate S30 0 [⟨S10,
    ((broadcastInDim S10 ![] bcast_S_S10 (constantI S_ 32 0#32)) : (⟨S10, .i32⟩ : BufTy).Contents (Elt Ideal))⟩, ⟨S10,
    ((broadcastInDim S10 ![] bcast_S_S10 (constantI S_ 32 1#32)) : (⟨S10, .i32⟩ : BufTy).Contents (Elt Ideal))⟩, ⟨S10,
    ((broadcastInDim S10 ![] bcast_S_S10 (constantI S_ 32 2#32)) : (⟨S10, .i32⟩ : BufTy).Contents (Elt Ideal))⟩]
    concatenates_S10_S10_S10_S30_d0 : (⟨S30, .i32⟩ : BufTy).Contents (Elt Ideal))) shapeCasts_S30_S1x30))
    shapeCasts_S1024x30_S30720

/-- The nodes' features. -/
def features (a0 : FVec Ideal S1024x60 .f32) (a1 : FVec Ideal S30720x2 .f32) (a2 : FVec Ideal S4x128 .f32) (a3 : FVec Ideal S128 .f32) (a4 : FVec Ideal S128x128 .f32) (a5 : FVec Ideal S128 .f32) (a6 : FVec Ideal S3x64 .f32) (a7 : FVec Ideal S64x64 .f32) (a8 : FVec Ideal S64 .f32) : FVec Ideal S30720x192 .f32 :=
  Host.tanh (concatenate S30720x192 1 [⟨S30720x128, (addf (Host.dotGeneral dot_S30720x128_S128x128_S30720x128_1_0_0_1_n_n
    none (Host.tanh (addf (Host.dotGeneral dot_S30720x4_S4x128_S30720x128_1_0_0_1_n_n none (concatenate S30720x4 1
    [⟨S30720x2, (shapeCast _ a0 shapeCasts_S1024x60_S30720x2)⟩, ⟨S30720x2, (Host.tanh a1)⟩]
    concatenates_S30720x2_S30720x2_S30720x4_d1) a2) (broadcastInDim S30720x128 ![0, 1] bcast_S1x128_S30720x128_0_1
    (broadcastInDim S1x128 ![1] bcast_S128_S1x128_1 a3)))) a4) (broadcastInDim S30720x128 ![0, 1]
    bcast_S1x128_S30720x128_0_1 (broadcastInDim S1x128 ![1] bcast_S128_S1x128_1 a5)))⟩, ⟨S30720x64, (addf (Host.dotGeneral
    dot_S30720x64_S64x64_S30720x64_1_0_0_1_n_n none (Host.tanh (Host.gather gather_S3x64_S30720x1_S30720x64_1_0_n_n_0_1_164
    a6 (broadcastInDim S30720x1 ![0] bcast_S30720_S30720x1_0 (select (cmpi .slt cats (broadcastInDim S30720 ![]
    bcast_S_S30720 (constantI S_ 32 0#32))) (addi cats (broadcastInDim S30720 ![] bcast_S_S30720 (constantI S_ 32 3#32)))
    cats)))) a7) (broadcastInDim S30720x64 ![0, 1] bcast_S1x64_S30720x64_0_1 (broadcastInDim S1x64 ![1] bcast_S64_S1x64_1
    a8)))⟩] concatenates_S30720x128_S30720x64_S30720x192_d1)

/-- The rows of `x` that the words `p` name. -/
def taken (x : FVec Ideal S30720x192 .f32) (p : IVec S307200 32) : FVec Ideal S307200x192 .f32 :=
  Host.gather gather_S30720x192_S307200x1_S307200x192_1_0_n_n_0_1_1192 x (broadcastInDim S307200x1 ![0]
    bcast_S307200_S307200x1_0 (select (cmpi .slt p (broadcastInDim S307200 ![] bcast_S_S307200 (constantI S_ 32 0#32)))
    (addi p (broadcastInDim S307200 ![] bcast_S_S307200 (constantI S_ 32 30720#32))) p))

/-- The edges' messages. -/
def messages (xi xj : FVec Ideal S307200x192 .f32) (a9 : FVec Ideal S384x128 .f32) (a10 : FVec Ideal S128 .f32) (a11 : FVec Ideal S128x128 .f32) (a12 : FVec Ideal S128 .f32) : FVec Ideal S307200x128 .f32 :=
  addf (Host.dotGeneral dot_S307200x128_S128x128_S307200x128_1_0_0_1_n_n none (Host.tanh (addf (Host.dotGeneral
    dot_S307200x384_S384x128_S307200x128_1_0_0_1_n_n none (concatenate S307200x384 1 [⟨S307200x192, xi⟩, ⟨S307200x192, (subf
    xj xi)⟩] concatenates_S307200x192_S307200x192_S307200x384_d1) a9) (broadcastInDim S307200x128 ![0, 1]
    bcast_S1x128_S307200x128_0_1 (broadcastInDim S1x128 ![1] bcast_S128_S1x128_1 a10)))) a11) (broadcastInDim S307200x128
    ![0, 1] bcast_S1x128_S307200x128_0_1 (broadcastInDim S1x128 ![1] bcast_S128_S1x128_1 a12))

/-- The maximum of each node's ten messages. -/
def aggregate (e : FVec Ideal S307200x128 .f32) : FVec Ideal S30720x128 .f32 :=
  Host.reduce FloatOps.maximumf (shapeCast _ e shapeCasts_S307200x128_S30720x10x128) (constant S_ .f32 0xFF800000#32)
    reducesTo_S30720x10x128_S30720x128_d1 h_S_

/-- The actor's numbers. -/
def scores (g : FVec Ideal S30720x128 .f32) (a13 : FVec Ideal S128x128 .f32) (a14 : FVec Ideal S128 .f32) (a15 : FVec Ideal S128x4 .f32) (a16 : FVec Ideal S4 .f32) : FVec Ideal S30720x4 .f32 :=
  addf (Host.dotGeneral dot_S30720x128_S128x4_S30720x4_1_0_0_1_n_n none (Host.tanh (addf (Host.dotGeneral
    dot_S30720x128_S128x128_S30720x128_1_0_0_1_n_n none (Host.tanh g) a13) (broadcastInDim S30720x128 ![0, 1]
    bcast_S1x128_S30720x128_0_1 (broadcastInDim S1x128 ![1] bcast_S128_S1x128_1 a14)))) a15) (broadcastInDim S30720x4 ![0,
    1] bcast_S1x4_S30720x4_0_1 (broadcastInDim S1x4 ![1] bcast_S4_S1x4_1 a16))

/-- The result from the actor's numbers. -/
def result (o : FVec Ideal S30720x4 .f32) (a1 : FVec Ideal S30720x2 .f32) : FVec Ideal S1024x120 .f32 :=
  concatenate S1024x120 1 [⟨S1024x60, (addf (mulf (broadcastInDim S1024x60 ![] bcast_S_S1024x60 (constant S_ .f32
    0x3F800000#32)) (Host.tanh (shapeCast _ (extractStridedSlice S30720x2 ![0, 0] o slices_S30720x4_S30720x2_0_0)
    shapeCasts_S30720x2_S1024x60))) (mulf (broadcastInDim S1024x60 ![] bcast_S_S1024x60 (constant S_ .f32 0x3F800000#32))
    (Host.tanh (shapeCast _ a1 shapeCasts_S30720x2_S1024x60))))⟩, ⟨S1024x60, (shapeCast _ (Host.exp (addf (broadcastInDim
    S30720x2 ![] bcast_S_S30720x2 (constant S_ .f32 0xC0A00000#32)) (mulf (broadcastInDim S30720x2 ![] bcast_S_S30720x2
    (constant S_ .f32 0x40600000#32)) (addf (Host.tanh (extractStridedSlice S30720x2 ![0, 2] o
    slices_S30720x4_S30720x2_0_2)) (broadcastInDim S30720x2 ![] bcast_S_S30720x2 (constant S_ .f32 0x3F800000#32))))))
    shapeCasts_S30720x2_S1024x60)⟩] concatenates_S1024x60_S1024x60_S1024x120_d1

variable (m : (ℓ : Loc nD τ sig) → Buf (Elt Ideal) ℓ) (c : Dev nD)

/-- The composed term is the stages, one after the other. -/
theorem composed : Cert.ReferenceIdeal.Value.res_main_v122 m c =
    let x := features (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8))
    result (scores (aggregate (messages (taken x owners) (taken x (picks (negDist (m (c.tc.loc main_arg0))))) (m (c.tc.loc main_arg9)) (m (c.tc.loc main_arg10)) (m (c.tc.loc main_arg11)) (m (c.tc.loc main_arg12))))
      (m (c.tc.loc main_arg13)) (m (c.tc.loc main_arg14)) (m (c.tc.loc main_arg15)) (m (c.tc.loc main_arg16))) (m (c.tc.loc main_arg1)) := by
  rfl

end Cert.Proof.Stages
-- ==== Proof.Reads.lean ====
/- The stages of the reference, read element by element. -/
module

public import proofs.«01_k».proof.Proof.Stages
public import proofs.«01_k».proof.Proof.Edge
public import Idealize.ShloMosaic.Lib.Routing.Ops

@[expose] public section

set_option maxRecDepth 16384

noncomputable section

namespace Cert.Proof.Reads

open Idealize.ShloMosaic Idealize.ShloMosaic.Routing Idealize.ShloMosaic.TcCoe Cert.ReferenceIdeal Cert.ReferenceIdeal.Gen Cert.Proof.Stages

/-- The node at position `r` of the stable sort of a row by its entries, the greater first. -/
def nth (v : FVec Ideal S1024x30x30 .f32) (b : Fin 1024) (i : Fin 30) (r : Fin 10) : Fin 30 :=
  sortedFrom (fun k k' : Fin 30 => FloatOps.cmpfTotal .gt (v (ix3 b i k)) (v (ix3 b i k')) == 1#1) (r.castLE (by decide))

/-- The positions of the ten greatest entries of a row. -/
theorem top_at (v : FVec Ideal S1024x30x30 .f32) (b : Fin 1024) (i : Fin 30) (r : Fin 10) :
    (Host.topK S1024x30x10 2 (FloatOps.cmpfTotal .gt) v sliceFits_S1024x30x30_S1024x30x10).2 (ix3 b i r)
      = BitVec.ofNat 32 (nth v b i r) := by
  have al : ∀ k : Fin 30, (ix3 b i (r.castLE (by decide) : Fin 30)).along (s := S1024x30x30) 2 k = ix3 b i k := fun k => by
    funext a
    unfold Shape.Idx.along
    match a with
    | ⟨0, _⟩ => rfl
    | ⟨1, _⟩ => rfl
    | ⟨2, _⟩ => rfl
  have hs : ∀ (f : S1024x30x30.Idx → BitVec 32), extractStridedSlice S1024x30x10 (fun _ => 0) f sliceFits_S1024x30x30_S1024x30x10 (ix3 b i r)
      = f (ix3 b i (r.castLE (by decide) : Fin 30)) := fun f => by
    pointwise
    rfl
  unfold Host.topK
  dsimp only
  refine (hs _).trans ?_
  unfold Host.sort2
  rw [dif_pos (show 2 < S1024x30x30.rank by decide)]
  dsimp only
  have hi : ∀ k : Fin 30, (fun i => if hd : 2 < S1024x30x30.rank then iotaInDim S1024x30x30 32 ⟨2, hd⟩ i else 0#32)
      ((ix3 b i (r.castLE (by decide) : Fin 30)).along (s := S1024x30x30) 2 k) = BitVec.ofNat 32 k := fun k => by
    rw [al]
    rfl
  refine (hi _).trans (congrArg (fun k : Fin 30 => BitVec.ofNat 32 k) ?_)
  unfold nth
  refine congrArg (fun R : Fin 30 → Fin 30 → Bool => sortedFrom R (r.castLE (by decide))) ?_
  funext k k'
  exact congrArg₂ (fun x y => FloatOps.cmpfTotal (F := Ideal) .gt (v x) (v y) == 1#1) (al k) (al k')

/-- The nodes picked, by their numbers over all samples. -/
theorem picks_at (v : FVec Ideal S1024x30x30 .f32) (b : Fin 1024) (i : Fin 30) (r : Fin 10) :
    picks v (ix1 ⟨(b * 30 + i) * 10 + r, by omega⟩) = BitVec.ofNat 32 (b * 30 + nth v b i r) := by
  pointwise [picks]
  rw [top_at]
  have e : IntOp.addi (BitVec.ofNat 32 (nth v b i r)) (IntOp.muli (BitVec.ofNat 32 b) 30#32)
    = BitVec.ofNat 32 (nth v b i r) + BitVec.ofNat 32 b * BitVec.ofNat 32 30 := rfl
  rw [e, ← BitVec.ofNat_mul, ← BitVec.ofNat_add, Nat.add_comm]

/-- The node an edge belongs to. -/
theorem owners_at (n : Fin 307200) : owners (ix1 n) = BitVec.ofNat 32 (n / 10) := by
  pointwise [owners]
  congr 1
  omega

/-- A node's category. -/
theorem cats_at (n : Fin 30720) : cats (ix1 n) = BitVec.ofNat 32 (n % 30 / 10) := by
  pointwise [cats]
  split
  next h => rw [Nat.div_eq_of_lt h]
  next h =>
    split
    next h' => rw [show (n : ℕ) % 30 / 10 = 1 by omega]
    next h' => rw [show (n : ℕ) % 30 / 10 = 2 by omega]

/-- A word below `2 ^ 31` is not negative, so the wrap leaves it. -/
theorem unwrapped (n : ℕ) (h : n < 2 ^ 31) (w : BitVec 32) :
    Scalar.select (IntOp.cmpi .slt (BitVec.ofNat 32 n) 0#32) w (BitVec.ofNat 32 n) = BitVec.ofNat 32 n := by
  have e : IntOp.cmpi .slt (BitVec.ofNat 32 n) 0#32 = 0#1 := by
    have hs : (BitVec.ofNat 32 n).slt 0#32 = false := by
      rw [BitVec.slt, decide_eq_false_iff_not, BitVec.toInt_eq_toNat_of_lt (by rw [BitVec.toNat_ofNat]; omega)]
      exact not_lt.2 (Int.natCast_nonneg _)
    simp [IntOp.cmpi, hs]
  rw [e]
  rfl

/-- A row taken by its number. -/
theorem taken_at (x : FVec Ideal S30720x192 .f32) (p : IVec S307200 32) (n : Fin 307200) (y : Fin 192) (k : Fin 30720)
    (h : p (ix1 n) = BitVec.ofNat 32 k) : taken x p (ix2 n y) = x (ix2 k y) := by
  unfold taken
  refine gather_row _ rfl rfl rfl rfl rfl x _ n y k ?_ (by decide)
  pointwise
  rw [h, unwrapped _ (by omega)]

/-- The maximum of a node's ten messages. -/
theorem aggregate_at (e : FVec Ideal S307200x128 .f32) (n : Fin 30720) (h : Fin 128) :
    aggregate e (ix2 n h) = (Finset.univ : Finset (Fin 10)).sup fun r => e (ix2 ⟨n * 10 + r, by omega⟩ h) := by
  pointwise [aggregate]
  rw [show Ideal.ofBits .f32 4286578688#32 = ⊥ from rfl]
  rfl

/-- The diagonal's nought or one. -/
theorem same (i j : Fin 30) :
    FloatOps.uitofp (F := Ideal) .f32 (IntOp.cmpi .eq (IntOp.addi (BitVec.ofNat 32 i) 0#32) (BitVec.ofNat 32 j))
      = (if i = j then 1 else 0 : EReal) := by
  have e : IntOp.addi (BitVec.ofNat 32 i) 0#32 = BitVec.ofNat 32 i := BitVec.add_zero _
  rw [e]
  by_cases h : i = j
  · subst h
    simp [IntOp.cmpi, FloatOps.uitofp]
  · have hne : BitVec.ofNat 32 (i : ℕ) ≠ BitVec.ofNat 32 (j : ℕ) := fun h' => h (Fin.ext (by
      have := congrArg BitVec.toNat h'
      rw [BitVec.toNat_ofNat, BitVec.toNat_ofNat] at this
      omega))
    simp [IntOp.cmpi, FloatOps.uitofp, hne, h]

/-- Minus the distances. -/
theorem negDist_at (a0 : FVec Ideal S1024x60 .f32) (b : Fin 1024) (i j : Fin 30) :
    negDist a0 (ix3 b i j) = -((a0 (ix2 b ⟨i * 2, by omega⟩) - a0 (ix2 b ⟨j * 2, by omega⟩))
        * (a0 (ix2 b ⟨i * 2, by omega⟩) - a0 (ix2 b ⟨j * 2, by omega⟩))
      + (a0 (ix2 b ⟨i * 2 + 1, by omega⟩) - a0 (ix2 b ⟨j * 2 + 1, by omega⟩))
        * (a0 (ix2 b ⟨i * 2 + 1, by omega⟩) - a0 (ix2 b ⟨j * 2 + 1, by omega⟩))
      + if i = j then Ideal.ofBits .f32 0x501502F9#32 else (0 : EReal)) := by
  pointwise [negDist]
  rw [Fin.sum_univ_two, same, ite_mul, one_mul, zero_mul]
  rfl

/-- The messages. -/
theorem messages_at (xi xj : FVec Ideal S307200x192 .f32) (a9 : FVec Ideal S384x128 .f32) (a10 : FVec Ideal S128 .f32)
    (a11 : FVec Ideal S128x128 .f32) (a12 : FVec Ideal S128 .f32) (n : Fin 307200) (h : Fin 128) :
    messages xi xj a9 a10 a11 a12 (ix2 n h)
      = ∑ x, Ideal.tanh (∑ y : Fin 192, xi (ix2 n y) * a9 (ix2 ⟨y, by omega⟩ x)
          + ∑ y : Fin 192, (xj (ix2 n y) - xi (ix2 n y)) * a9 (ix2 ⟨192 + y, by omega⟩ x) + a10 (ix1 x)) * a11 (ix2 x h)
        + a12 (ix1 h) := by
  pointwise [messages]

/-- The actor's numbers. -/
theorem scores_at (g : FVec Ideal S30720x128 .f32) (a13 : FVec Ideal S128x128 .f32) (a14 : FVec Ideal S128 .f32)
    (a15 : FVec Ideal S128x4 .f32) (a16 : FVec Ideal S4 .f32) (n : Fin 30720) (c : Fin 4) :
    scores g a13 a14 a15 a16 (ix2 n c)
      = ∑ x, Ideal.tanh (∑ y, Ideal.tanh (g (ix2 n y)) * a13 (ix2 y x) + a14 (ix1 x)) * a15 (ix2 x c) + a16 (ix1 c) := by
  pointwise [scores]

section Features

variable (a0 : FVec Ideal S1024x60 .f32) (a1 : FVec Ideal S30720x2 .f32) (a2 : FVec Ideal S4x128 .f32) (a3 : FVec Ideal S128 .f32)
  (a4 : FVec Ideal S128x128 .f32) (a5 : FVec Ideal S128 .f32) (a6 : FVec Ideal S3x64 .f32) (a7 : FVec Ideal S64x64 .f32)
  (a8 : FVec Ideal S64 .f32)

/-- The features a node has of itself. -/
theorem own_at (n : Fin 30720) (q : Fin 128) :
    features a0 a1 a2 a3 a4 a5 a6 a7 a8 (ix2 n ⟨q, by omega⟩)
      = Ideal.tanh (∑ x, Ideal.tanh
          (∑ k : Fin 2, a0 (ix2 ⟨n / 30, by omega⟩ ⟨n % 30 * 2 + k, by omega⟩) * a2 (ix2 ⟨k, by omega⟩ x)
            + ∑ k : Fin 2, Ideal.tanh (a1 (ix2 n k)) * a2 (ix2 ⟨2 + k, by omega⟩ x) + a3 (ix1 x)) * a4 (ix2 x q) + a5 (ix1 q)) := by
  pointwise [features]

/-- The features a node has of its category. -/
theorem category_at (n : Fin 30720) (q : Fin 64) :
    features a0 a1 a2 a3 a4 a5 a6 a7 a8 (ix2 n ⟨128 + q, by omega⟩)
      = Ideal.tanh (∑ x, Ideal.tanh (a6 (ix2 ⟨n % 30 / 10, by omega⟩ x)) * a7 (ix2 x q) + a8 (ix1 q)) := by
  pointwise [features]
  refine congrArg Ideal.tanh (congrArg (· + a8 (ix1 q)) (Finset.sum_congr rfl fun x _ => congrArg (fun z => Ideal.tanh z * a7 (ix2 x q)) ?_))
  refine gather_row _ rfl rfl rfl rfl rfl a6 _ n x ⟨n % 30 / 10, by omega⟩ ?_ (by decide)
  pointwise
  rw [cats_at, unwrapped _ (by omega)]

end Features

/-- The means in the result. -/
theorem mean_at (o : FVec Ideal S30720x4 .f32) (a1 : FVec Ideal S30720x2 .f32) (b : Fin 1024) (i : Fin 30) (k : Fin 2) :
    result o a1 (ix2 b ⟨i * 2 + k, by omega⟩)
      = Ideal.tanh (o (ix2 ⟨b * 30 + i, by omega⟩ ⟨k, by omega⟩)) + Ideal.tanh (a1 (ix2 ⟨b * 30 + i, by omega⟩ k)) := by
  pointwise [result]
  rw [dif_pos (by omega)]
  have e : ∀ h, (⟨b * 30 + (i * 2 + k) / 2, h⟩ : Fin 30720) = ⟨b * 30 + i, by omega⟩ := fun h => Fin.ext (by
    change (b : ℕ) * 30 + (i * 2 + k) / 2 = b * 30 + i; omega)
  rw [e]

/-- The standard deviations in the result. -/
theorem spread_at (o : FVec Ideal S30720x4 .f32) (a1 : FVec Ideal S30720x2 .f32) (b : Fin 1024) (i : Fin 30) (k : Fin 2) :
    result o a1 (ix2 b ⟨60 + (i * 2 + k), by omega⟩) = Edge.deviation (o (ix2 ⟨b * 30 + i, by omega⟩ ⟨2 + k, by omega⟩)) := by
  unfold Edge.deviation
  pointwise [result]
  have e : ∀ h, (⟨b * 30 + (i * 2 + k) / 2, h⟩ : Fin 30720) = ⟨b * 30 + i, by omega⟩ := fun h => Fin.ext (by
    change (b : ℕ) * 30 + (i * 2 + k) / 2 = b * 30 + i; omega)
  rw [e]

end Cert.Proof.Reads
-- ==== Proof.Split.lean ====
/- The first layer of an edge, split between its two nodes. -/
module

public import proofs.«01_k».proof.Proof.Edge

@[expose] public section

noncomputable section

namespace Cert.Proof.Split

open Idealize.ShloMosaic Cert.Proof.Edge

/-- A hyperbolic tangent is a real number. -/
theorem tanh_real (a : EReal) : ∃ r : ℝ, Ideal.tanh a = r := by
  induction a with
  | bot => exact ⟨-1, show (-1 : EReal) = ((-1 : ℝ) : EReal) by simp⟩
  | top => exact ⟨1, show (1 : EReal) = ((1 : ℝ) : EReal) by simp⟩
  | coe x => exact ⟨_, rfl⟩

/-- One weight's two terms: `x (t - b) + y b = x t + (y - x) b` for real `x`, `y` and `b`. -/
theorem term (x y b : ℝ) (t : EReal) : (x : EReal) * (t - b) + y * b = x * t + (y - x) * b := by
  induction t with
  | coe t => norm_cast; ring
  | bot =>
    rcases lt_trichotomy x 0 with h | rfl | h
    · rw [EReal.bot_sub, EReal.coe_mul_bot_of_neg h]
      norm_cast
    · simp
    · rw [EReal.bot_sub, EReal.coe_mul_bot_of_pos h, EReal.bot_add, EReal.bot_add]
  | top =>
    rcases lt_trichotomy x 0 with h | rfl | h
    · rw [EReal.top_sub_coe, EReal.coe_mul_top_of_neg h, EReal.bot_add, EReal.bot_add]
    · simp
    · rw [EReal.top_sub_coe, EReal.coe_mul_top_of_pos h]
      norm_cast

/-- A sum over the 192 features is a sum over a node's own and a sum over its category's. -/
theorem sum_features (f : Fin 192 → EReal) :
    ∑ y, f y = ∑ x : Fin 128, f ⟨x, by omega⟩ + ∑ x : Fin 64, f ⟨128 + x, by omega⟩ :=
  Fin.sum_univ_add (a := 128) (b := 64) f

variable (N : Net)

/-- The two halves of an edge's first layer make up the layer. -/
theorem halves (xi xj : Fin 192 → EReal) (hi : ∀ y, ∃ r : ℝ, xi y = r) (hj : ∀ y, ∃ r : ℝ, xj y = r) (q : Fin 128)
    (hw : ∀ y : Fin 192, ∃ r : ℝ, N.Wm1 ⟨192 + y, by omega⟩ q = r) :
    N.left (fun x => xi ⟨x, by omega⟩) (fun x => xi ⟨128 + x, by omega⟩) q
        + N.right (fun x => xj ⟨x, by omega⟩) (fun x => xj ⟨128 + x, by omega⟩) q
      = ∑ y : Fin 192, xi y * N.Wm1 ⟨y, by omega⟩ q + ∑ y : Fin 192, (xj y - xi y) * N.Wm1 ⟨192 + y, by omega⟩ q + N.bm1 q := by
  have e : ∀ y : Fin 192, xi y * (N.Wm1 ⟨y, by omega⟩ q - N.Wm1 ⟨192 + y, by omega⟩ q) + xj y * N.Wm1 ⟨192 + y, by omega⟩ q
      = xi y * N.Wm1 ⟨y, by omega⟩ q + (xj y - xi y) * N.Wm1 ⟨192 + y, by omega⟩ q := fun y => by
    obtain ⟨x, hx⟩ := hi y
    obtain ⟨z, hz⟩ := hj y
    obtain ⟨b, hb⟩ := hw y
    rw [hx, hz, hb]
    exact term x z b _
  rw [← Finset.sum_add_distrib, ← Finset.sum_congr rfl fun y _ => e y, Finset.sum_add_distrib, sum_features, sum_features]
  unfold Net.left Net.right
  have hn : ∀ x : Fin 64, ∀ h, (⟨192 + (128 + x), h⟩ : Fin 384) = ⟨320 + x, by omega⟩ := fun x h => Fin.ext (by
    change 192 + (128 + (x : ℕ)) = 320 + x; omega)
  simp only [hn]
  abel

/-- The maximum of messages with an offset is the maximum of the messages, with the offset. -/
theorem sup_add (f : Fin 10 → EReal) (b : EReal) :
    ((Finset.univ : Finset (Fin 10)).sup fun r => f r + b) = (Finset.univ : Finset (Fin 10)).sup f + b := by
  have h := Finset.comp_sup_eq_sup_comp_of_is_total (s := (Finset.univ : Finset (Fin 10))) (f := f) (fun z : EReal => z + b)
    (fun x y h => add_le_add_left h b) (EReal.bot_add b)
  exact h.symm

end Cert.Proof.Split

end
-- ==== Proof.ReferenceValue.lean ====
/- The reference's result, element by element, from the arguments. -/
module

public import proofs.«01_k».proof.Proof.KernelValue
public import proofs.«01_k».proof.Proof.Order
public import proofs.«01_k».proof.Proof.Reads
public import proofs.«01_k».proof.Proof.Split

@[expose] public section

set_option maxRecDepth 16384

noncomputable section

namespace Cert.Proof.ReferenceValue

open Idealize.ShloMosaic Cert.ReferenceIdeal Cert.ReferenceIdeal.Gen Cert.Proof.Edge Cert.Proof.Model Cert.Proof.Stages

variable (a0 : FVec Ideal S1024x60 .f32) (a1 : FVec Ideal S30720x2 .f32) (a2 : FVec Ideal S4x128 .f32) (a3 : FVec Ideal S128 .f32)
  (a4 : FVec Ideal S128x128 .f32) (a5 : FVec Ideal S128 .f32) (a6 : FVec Ideal S3x64 .f32) (a7 : FVec Ideal S64x64 .f32)
  (a8 : FVec Ideal S64 .f32) (a9 : FVec Ideal S384x128 .f32) (a10 : FVec Ideal S128 .f32) (a11 : FVec Ideal S128x128 .f32)
  (a12 : FVec Ideal S128 .f32) (a13 : FVec Ideal S128x128 .f32) (a14 : FVec Ideal S128 .f32) (a15 : FVec Ideal S128x4 .f32)
  (a16 : FVec Ideal S4 .f32)

/-- The elements of the arguments. -/
def args : Inputs where
  place b k := a0 (ix2 b k)
  target n k := a1 (ix2 n k)
  net := KernelValue.weights a2 a3 a4 a5 a6 a7 a8 a9 a10 a11 a12 a13 a14 a15 a16

/-- The first features of a node. -/
theorem own (b : Fin 1024) (i : Fin 30) (q : Fin 128) :
    features a0 a1 a2 a3 a4 a5 a6 a7 a8 (ix2 ⟨b * 30 + i, by omega⟩ ⟨q, by omega⟩) = (args a0 a1 a2 a3 a4 a5 a6 a7 a8 a9 a10 a11 a12 a13 a14 a15 a16).feature b i q := by
  have hd : ∀ h, (⟨(b * 30 + i : ℕ) / 30, h⟩ : Fin 1024) = b := fun h => Fin.ext (by
    change ((b : ℕ) * 30 + i) / 30 = b; omega)
  have hm : ∀ k : Fin 2, ∀ h, (⟨(b * 30 + i : ℕ) % 30 * 2 + k, h⟩ : Fin 60) = ⟨i * 2 + k, by omega⟩ := fun k h => Fin.ext (by
    change ((b : ℕ) * 30 + i) % 30 * 2 + k = i * 2 + k; omega)
  rw [Reads.own_at]
  simp only [hd, hm]
  unfold Inputs.feature Net.feature
  refine congrArg Ideal.tanh (congrArg (· + a5 (ix1 q)) (Finset.sum_congr rfl fun x _ =>
    congrArg (fun z => Ideal.tanh (z + a3 (ix1 x)) * a4 (ix2 x q)) ?_))
  rw [Fin.sum_univ_four, Fin.sum_univ_two, Fin.sum_univ_two, add_assoc, add_assoc, add_assoc]
  rfl

/-- The other features of a node. -/
theorem category (b : Fin 1024) (i : Fin 30) (q : Fin 64) :
    features a0 a1 a2 a3 a4 a5 a6 a7 a8 (ix2 ⟨b * 30 + i, by omega⟩ ⟨128 + q, by omega⟩) = (args a0 a1 a2 a3 a4 a5 a6 a7 a8 a9 a10 a11 a12 a13 a14 a15 a16).category i q := by
  have hc : ∀ h, (⟨(b * 30 + i : ℕ) % 30 / 10, h⟩ : Fin 3) = ⟨i / 10, by omega⟩ := fun h => Fin.ext (by
    change ((b : ℕ) * 30 + i) % 30 / 10 = i / 10; omega)
  rw [Reads.category_at]
  simp only [hc]
  rfl

/-- Every feature is a real number. -/
theorem features_real (n : Fin 30720) (y : Fin 192) : ∃ r : ℝ, (features a0 a1 a2 a3 a4 a5 a6 a7 a8 (ix2 n y) : EReal) = r := by
  by_cases h : (y : ℕ) < 128
  · have e := Reads.own_at a0 a1 a2 a3 a4 a5 a6 a7 a8 n ⟨y, h⟩
    exact e ▸ Split.tanh_real _
  · have e := Reads.category_at a0 a1 a2 a3 a4 a5 a6 a7 a8 n ⟨y - 128, by omega⟩
    have hy : ∀ h, (⟨128 + (y - 128 : ℕ), h⟩ : Fin 192) = y := fun _ => Fin.ext (by change 128 + ((y : ℕ) - 128) = y; omega)
    simp only [hy] at e
    exact e ▸ Split.tanh_real _

/-- The node at position `r` of the sort by the distances. -/
def near (b : Fin 1024) (i : Fin 30) (r : Fin 10) : Fin 30 := Reads.nth (negDist a0) b i r

/-- An edge's message. -/
theorem message (hw : ∀ (y : Fin 192) (q : Fin 128), ∃ r : ℝ, (a9 (ix2 ⟨192 + y, by omega⟩ q) : EReal) = r)
    (b : Fin 1024) (i : Fin 30) (r : Fin 10) (h : Fin 128) :
    messages (taken (features a0 a1 a2 a3 a4 a5 a6 a7 a8) owners) (taken (features a0 a1 a2 a3 a4 a5 a6 a7 a8) (picks (negDist a0))) a9 a10 a11 a12 (ix2 ⟨(b * 30 + i) * 10 + r, by omega⟩ h)
      = (args a0 a1 a2 a3 a4 a5 a6 a7 a8 a9 a10 a11 a12 a13 a14 a15 a16).edge b i (near a0 b i r) h + a12 (ix1 h) := by
  have hi : ∀ y, taken (features a0 a1 a2 a3 a4 a5 a6 a7 a8) owners (ix2 ⟨(b * 30 + i) * 10 + r, by omega⟩ y) = (features a0 a1 a2 a3 a4 a5 a6 a7 a8) (ix2 ⟨b * 30 + i, by omega⟩ y) := fun y =>
    Reads.taken_at _ _ _ _ _ ((Reads.owners_at _).trans (congrArg (BitVec.ofNat 32) (by
      change (((b : ℕ) * 30 + i) * 10 + r) / 10 = b * 30 + i; omega)))
  have hj : ∀ y, taken (features a0 a1 a2 a3 a4 a5 a6 a7 a8) (picks (negDist a0)) (ix2 ⟨(b * 30 + i) * 10 + r, by omega⟩ y)
      = (features a0 a1 a2 a3 a4 a5 a6 a7 a8) (ix2 ⟨b * 30 + near a0 b i r, by omega⟩ y) := fun y =>
    Reads.taken_at _ _ _ _ _ (Reads.picks_at _ _ _ _)
  rw [Reads.messages_at]
  simp only [hi, hj]
  unfold Inputs.edge Net.message
  refine congrArg (· + a12 (ix1 h)) (Finset.sum_congr rfl fun q _ => congrArg (fun z => Ideal.tanh z * a11 (ix2 q h)) ?_)
  refine (Split.halves (args a0 a1 a2 a3 a4 a5 a6 a7 a8 a9 a10 a11 a12 a13 a14 a15 a16).net (fun y => (features a0 a1 a2 a3 a4 a5 a6 a7 a8) (ix2 ⟨b * 30 + i, by omega⟩ y)) (fun y => (features a0 a1 a2 a3 a4 a5 a6 a7 a8) (ix2 ⟨b * 30 + near a0 b i r, by omega⟩ y))
    (features_real a0 a1 a2 a3 a4 a5 a6 a7 a8 _) (features_real a0 a1 a2 a3 a4 a5 a6 a7 a8 _) q fun y => hw y q).symm.trans ?_
  simp only [own a0 a1 a2 a3 a4 a5 a6 a7 a8 a9 a10 a11 a12 a13 a14 a15 a16, category a0 a1 a2 a3 a4 a5 a6 a7 a8 a9 a10 a11 a12 a13 a14 a15 a16]

/-- Minus the distances of the nodes of a sample from node `i`. -/
theorem negDist_eq (b : Fin 1024) (i j : Fin 30) : negDist a0 (ix3 b i j) = -((args a0 a1 a2 a3 a4 a5 a6 a7 a8 a9 a10 a11 a12 a13 a14 a15 a16).dist b i j) := Reads.negDist_at a0 b i j

/-- The maximum of a node's messages. -/
theorem pooled (hw : ∀ (y : Fin 192) (q : Fin 128), ∃ r : ℝ, (a9 (ix2 ⟨192 + y, by omega⟩ q) : EReal) = r)
    (b : Fin 1024) (i : Fin 30) (h : Fin 128) :
    aggregate (messages (taken (features a0 a1 a2 a3 a4 a5 a6 a7 a8) owners) (taken (features a0 a1 a2 a3 a4 a5 a6 a7 a8) (picks (negDist a0))) a9 a10 a11 a12) (ix2 ⟨b * 30 + i, by omega⟩ h)
      = (args a0 a1 a2 a3 a4 a5 a6 a7 a8 a9 a10 a11 a12 a13 a14 a15 a16).pooled b i h + a12 (ix1 h) := by
  rw [Reads.aggregate_at]
  refine (Finset.sup_congr rfl fun r _ => message a0 a1 a2 a3 a4 a5 a6 a7 a8 a9 a10 a11 a12 a13 a14 a15 a16 hw b i r h).trans ((Split.sup_add _ _).trans ?_)
  refine congrArg (· + a12 (ix1 h)) (Order.sup_nearest ((args a0 a1 a2 a3 a4 a5 a6 a7 a8 a9 a10 a11 a12 a13 a14 a15 a16).dist b i)
    (fun k k' => FloatOps.cmpfTotal (F := Ideal) .gt (negDist a0 (ix3 b i k)) (negDist a0 (ix3 b i k')) == 1#1) (fun k j => ?_)
    (fun j => (args a0 a1 a2 a3 a4 a5 a6 a7 a8 a9 a10 a11 a12 a13 a14 a15 a16).edge b i j h)).symm
  rw [negDist_eq a0 a1 a2 a3 a4 a5 a6 a7 a8 a9 a10 a11 a12 a13 a14 a15 a16, negDist_eq a0 a1 a2 a3 a4 a5 a6 a7 a8 a9 a10 a11 a12 a13 a14 a15 a16, Ideal.cmpfTotal_def]
  change (BitVec.ofBool (decide (-((args a0 a1 a2 a3 a4 a5 a6 a7 a8 a9 a10 a11 a12 a13 a14 a15 a16).dist b i j) < -((args a0 a1 a2 a3 a4 a5 a6 a7 a8 a9 a10 a11 a12 a13 a14 a15 a16).dist b i k))) == 1#1) = true ↔ _
  rw [← EReal.neg_lt_neg_iff (a := (args a0 a1 a2 a3 a4 a5 a6 a7 a8 a9 a10 a11 a12 a13 a14 a15 a16).dist b i j)]
  by_cases hc : -((args a0 a1 a2 a3 a4 a5 a6 a7 a8 a9 a10 a11 a12 a13 a14 a15 a16).dist b i j) < -((args a0 a1 a2 a3 a4 a5 a6 a7 a8 a9 a10 a11 a12 a13 a14 a15 a16).dist b i k) <;> simp [hc]

/-- The reference's numbers for a node. -/
theorem score (hw : ∀ (y : Fin 192) (q : Fin 128), ∃ r : ℝ, (a9 (ix2 ⟨192 + y, by omega⟩ q) : EReal) = r)
    (b : Fin 1024) (i : Fin 30) (c : Fin 4) :
    scores (aggregate (messages (taken (features a0 a1 a2 a3 a4 a5 a6 a7 a8) owners) (taken (features a0 a1 a2 a3 a4 a5 a6 a7 a8) (picks (negDist a0))) a9 a10 a11 a12)) a13 a14 a15 a16
      (ix2 ⟨b * 30 + i, by omega⟩ c) = (args a0 a1 a2 a3 a4 a5 a6 a7 a8 a9 a10 a11 a12 a13 a14 a15 a16).score b i c := by
  rw [Reads.scores_at]
  simp only [pooled a0 a1 a2 a3 a4 a5 a6 a7 a8 a9 a10 a11 a12 a13 a14 a15 a16 hw]
  rfl

end Cert.Proof.ReferenceValue

end
-- ==== Proof.Algebraic.lean ====
/- The kernel's result is the reference's. -/
module

public import proofs.«01_k».proof.Defs
public import proofs.«01_k».proof.Proof.Finite
public import proofs.«01_k».proof.Proof.KernelRun
public import proofs.«01_k».proof.Proof.ReferenceValue

@[expose] public section

set_option maxRecDepth 16384

noncomputable section

namespace Cert.Proof.Algebraic

open Idealize.ShloMosaic Idealize.SL.Sem Cert.KernelIdeal Cert.KernelIdeal.Gen

/-- Two results are equal when the means are equal and the deviations are: of a row's 120 columns the first 60 hold the
means, the others the deviations. -/
theorem ext (f g : S1024x120.Idx → EReal)
    (hm : ∀ (b : Fin 1024) (i : Fin 30) (k : Fin 2), f (ix2 b ⟨i * 2 + k, by omega⟩) = g (ix2 b ⟨i * 2 + k, by omega⟩))
    (hs : ∀ (b : Fin 1024) (i : Fin 30) (k : Fin 2), f (ix2 b ⟨60 + (i * 2 + k), by omega⟩) = g (ix2 b ⟨60 + (i * 2 + k), by omega⟩)) :
    f = g := by
  suffices key : ∀ (b : Fin 1024) (q : Fin 120), f (ix2 b q) = g (ix2 b q) from funext fun y => by
    rw [eq_ix2 y]
    exact key _ _
  intro b q
  by_cases hq : (q : ℕ) < 60
  · have e : q = ⟨((⟨q / 2, by omega⟩ : Fin 30) : ℕ) * 2 + ((⟨q % 2, by omega⟩ : Fin 2) : ℕ), by dsimp only; omega⟩ :=
      Fin.ext (by dsimp only; omega)
    rw [e]
    exact hm b _ _
  · have e : q = ⟨60 + (((⟨(q - 60) / 2, by omega⟩ : Fin 30) : ℕ) * 2 + ((⟨(q - 60) % 2, by omega⟩ : Fin 2) : ℕ)), by dsimp only; omega⟩ :=
      Fin.ext (by dsimp only; omega)
    rw [e]
    exact hs b _ _

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The reference's stages, one after the other, from the kernel's arguments. -/
def stages : FVec Ideal Cert.ReferenceIdeal.S1024x120 .f32 :=
  let x := Stages.features (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)) (m (c.tc.loc Cert.KernelIdeal.main_arg7)) (m (c.tc.loc Cert.KernelIdeal.main_arg8))
  Stages.result (Stages.scores (Stages.aggregate (Stages.messages (Stages.taken x Stages.owners)
      (Stages.taken x (Stages.picks (Stages.negDist (m (c.tc.loc Cert.KernelIdeal.main_arg0))))) (m (c.tc.loc Cert.KernelIdeal.main_arg9)) (m (c.tc.loc Cert.KernelIdeal.main_arg10)) (m (c.tc.loc Cert.KernelIdeal.main_arg11)) (m (c.tc.loc Cert.KernelIdeal.main_arg12))))
    (m (c.tc.loc Cert.KernelIdeal.main_arg13)) (m (c.tc.loc Cert.KernelIdeal.main_arg14)) (m (c.tc.loc Cert.KernelIdeal.main_arg15)) (m (c.tc.loc Cert.KernelIdeal.main_arg16))) (m (c.tc.loc Cert.KernelIdeal.main_arg1))

/-- The value each stage gives is the kernel's, the coordinates and the lower half of the edges' weights being real. -/
theorem value (hp : Cert.Pre_KernelIdeal_finite (hPre_finite := Cert.Pre_finite.Gen.facts) m) :
    stages m c = (W11 m ρ c (Proc.devRef .tc main_v72) : S1024x120.Idx → EReal) := by
  obtain ⟨hfin, hw⟩ := Finite.both (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)) (m (c.tc.loc Cert.KernelIdeal.main_arg7)) (m (c.tc.loc Cert.KernelIdeal.main_arg8)) (m (c.tc.loc Cert.KernelIdeal.main_arg9)) (m (c.tc.loc Cert.KernelIdeal.main_arg10)) (m (c.tc.loc Cert.KernelIdeal.main_arg11)) (m (c.tc.loc Cert.KernelIdeal.main_arg12)) (m (c.tc.loc Cert.KernelIdeal.main_arg13)) (m (c.tc.loc Cert.KernelIdeal.main_arg14)) (m (c.tc.loc Cert.KernelIdeal.main_arg15)) (m (c.tc.loc Cert.KernelIdeal.main_arg16)) (hp c)
  refine ext _ _ (fun b i k => ?_) (fun b i k => ?_)
  · refine (Reads.mean_at _ _ b i k).trans (.trans ?_ (KernelValue.mean m ρ c hfin b i k).symm)
    exact congrArg (· + Ideal.tanh ((KernelValue.args m c).target ⟨b * 30 + i, by omega⟩ k)) (congrArg Ideal.tanh (ReferenceValue.score (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)) (m (c.tc.loc Cert.KernelIdeal.main_arg7)) (m (c.tc.loc Cert.KernelIdeal.main_arg8)) (m (c.tc.loc Cert.KernelIdeal.main_arg9)) (m (c.tc.loc Cert.KernelIdeal.main_arg10)) (m (c.tc.loc Cert.KernelIdeal.main_arg11)) (m (c.tc.loc Cert.KernelIdeal.main_arg12)) (m (c.tc.loc Cert.KernelIdeal.main_arg13)) (m (c.tc.loc Cert.KernelIdeal.main_arg14)) (m (c.tc.loc Cert.KernelIdeal.main_arg15)) (m (c.tc.loc Cert.KernelIdeal.main_arg16)) hw b i ⟨k, by omega⟩))
  · refine (Reads.spread_at _ _ b i k).trans (.trans ?_ (KernelValue.spread m ρ c hfin b i k).symm)
    exact congrArg Edge.deviation (ReferenceValue.score (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)) (m (c.tc.loc Cert.KernelIdeal.main_arg7)) (m (c.tc.loc Cert.KernelIdeal.main_arg8)) (m (c.tc.loc Cert.KernelIdeal.main_arg9)) (m (c.tc.loc Cert.KernelIdeal.main_arg10)) (m (c.tc.loc Cert.KernelIdeal.main_arg11)) (m (c.tc.loc Cert.KernelIdeal.main_arg12)) (m (c.tc.loc Cert.KernelIdeal.main_arg13)) (m (c.tc.loc Cert.KernelIdeal.main_arg14)) (m (c.tc.loc Cert.KernelIdeal.main_arg15)) (m (c.tc.loc Cert.KernelIdeal.main_arg16)) hw b i ⟨2 + k, by omega⟩)

/-- From equal arguments the reference's result is its stages from the kernel's arguments. -/
theorem agreed (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.ReferenceIdeal.Value.res_main_v122 m' c = stages m c := by
  obtain ⟨h0, h1, h2, h3, h4, h5, h6, h7, h8, h9, h10, h11, h12, h13, h14, h15, h16⟩ := h
  rw [Stages.composed, h0, h1, h2, h3, h4, h5, h6, h7, h8, h9, h10, h11, h12, h13, h14, h15, h16]
  rfl

/-- The kernel ends with the result of the fold in its last buffer, its arguments as they were. -/
theorem kernel : θ_run defs (onTc (τ := τ) (main (F := Ideal))) ⟨m, fun _ => 0, ρ⟩ (fun r => ∀ c : Dev nD,
    r.2.mem ((c.tc : Thread nD τ).loc main_v72) = W11 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨h c _ (mem_uc main_v72 (by decide)),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c),
     (h c _ (mem_uc main_arg11 (by decide))).trans (W11_main_arg11 m ρ c),
     (h c _ (mem_uc main_arg12 (by decide))).trans (W11_main_arg12 m ρ c),
     (h c _ (mem_uc main_arg13 (by decide))).trans (W11_main_arg13 m ρ c),
     (h c _ (mem_uc main_arg14 (by decide))).trans (W11_main_arg14 m ρ c),
     (h c _ (mem_uc main_arg15 (by decide))).trans (W11_main_arg15 m ρ c),
     (h c _ (mem_uc main_arg16 (by decide))).trans (W11_main_arg16 m ρ c)⟩)
    (KernelRun.run m ρ)

/-- Over the extended reals the kernel's result is the reference's, element by element. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m ρ m' ρ' hp hagree =>
  ⟨fun c => W11 m ρ c (Proc.devRef .tc main_v72), kernel m ρ,
    (θ_run Cert.ReferenceIdeal.defs _ _).mono
      (fun _ h c => ⟨(h c).1.trans ((agreed m m' c (hagree c)).trans (value m ρ c hp)), (h c).2⟩)
      (Cert.ReferenceIdeal.Value.run (F := Ideal) m' ρ')⟩

end Cert.Proof.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The reference runs without fault, leaves its arguments as they were and has no semaphore counter to leave raised. -/
theorem frame_reference : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The mask's name stands for `-∞`, and the printed constant is that value over the extended reals. -/
theorem preserves : Cert.preserves_Kernel_KernelIdeal :=
  IdealRules.named_const.statement Cert.KernelIdeal.κ "mask" .f32 0xF149F2CA#32 ⊥ rfl

/-- The three programs run without fault, the mask's name is admitted, and over the extended reals the kernel's result
is the reference's. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, preserves, Algebraic.algebraic⟩

end Cert.Proof

end
